-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  IdealRules.named_const.Statement Cert.KernelIdeal.κ "minute_angle" .f32 0x3B8EFA35#32 (((2 * Real.pi) * 1440⁻¹ : ℝ) : EReal)

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S4096x200 : Shape := ⟨2, ![4096, 200]⟩
abbrev S7x12 : Shape := ⟨2, ![7, 12]⟩
abbrev S24x12 : Shape := ⟨2, ![24, 12]⟩
abbrev S8x8 : Shape := ⟨2, ![8, 8]⟩
abbrev S10x8 : Shape := ⟨2, ![10, 8]⟩
abbrev S10 : Shape := ⟨1, ![10]⟩
abbrev S42x64 : Shape := ⟨2, ![42, 64]⟩
abbrev S64 : Shape := ⟨1, ![64]⟩
abbrev S_ : Shape := ⟨0, ![]⟩

class Facts : Prop where
  bcast_S_S4096x200 : S_.BroadcastsInDim S4096x200 (![] : Fin 0 → Fin S4096x200.rank)
  reducesTo_S4096x200_S_d0_1 : S4096x200.ReducesTo [0, 1] S_
  h_S_ : 0 < S_.numel
  bcast_S_S64 : S_.BroadcastsInDim S64 (![] : Fin 0 → Fin S64.rank)
  reducesTo_S64_S_d0 : S64.ReducesTo [0] S_

variable [Facts]

def fn_part1 {F : FTy → Type} [FloatOps F] (main_arg11 : FVec F S64 .f32) (main_v12 : IVec S_ 1) (main_v15 : IVec S_ 1) : IVec S_ 1 :=
  let main_v16 : IVec S_ 1 := andi main_v12 main_v15
  let main_v17 : FVec F S64 .f32 := Host.absf main_arg11
  let main_cst_6 : FVec F S_ .f32 := constant S_ .f32 0x7F800000#32
  let main_v18 : FVec F S64 .f32 := broadcastInDim S64 ![] bcast_S_S64 main_cst_6
  let main_v19 : IVec S64 1 := cmpf .olt main_v17 main_v18
  let main_c_7 : IVec S_ 1 := constantI S_ 1 1#1
  let main_v20 : IVec S_ 1 := (fun x v => Host.reduce IntOp.andi x v reducesTo_S64_S_d0 h_S_) main_v19 main_c_7
  let main_v21 : IVec S_ 1 := andi main_v16 main_v20
  main_v21

def fn {F : FTy → Type} [FloatOps F] (main_arg0 : IVec S4096x200 32) (main_arg1 : IVec S4096x200 32) (main_arg2 : FVec F S4096x200 .f32) (main_arg3 : IVec S4096x200 32) (main_arg4 : FVec F S7x12 .f32) (main_arg5 : FVec F S24x12 .f32) (main_arg6 : FVec F S8x8 .f32) (main_arg7 : FVec F S10x8 .f32) (main_arg8 : FVec F S10 .f32) (main_arg9 : FVec F S42x64 .f32) (main_arg10 : FVec F S64 .f32) (main_arg11 : FVec F S64 .f32) (main_arg12 : FVec F S64 .f32) : IVec S_ 1 :=
  let main_c : IVec S_ 32 := constantI S_ 32 0#32
  let main_v0 : IVec S4096x200 32 := broadcastInDim S4096x200 ![] bcast_S_S4096x200 main_c
  let main_v1 : IVec S4096x200 1 := cmpi .sge main_arg0 main_v0
  let main_c_0 : IVec S_ 32 := constantI S_ 32 7#32
  let main_v2 : IVec S4096x200 32 := broadcastInDim S4096x200 ![] bcast_S_S4096x200 main_c_0
  let main_v3 : IVec S4096x200 1 := cmpi .slt main_arg0 main_v2
  let main_v4 : IVec S4096x200 1 := andi main_v1 main_v3
  let main_c_1 : IVec S_ 1 := constantI S_ 1 1#1
  let main_v5 : IVec S_ 1 := (fun x v => Host.reduce IntOp.andi x v reducesTo_S4096x200_S_d0_1 h_S_) main_v4 main_c_1
  let main_c_2 : IVec S_ 32 := constantI S_ 32 0#32
  let main_v6 : IVec S4096x200 32 := broadcastInDim S4096x200 ![] bcast_S_S4096x200 main_c_2
  let main_v7 : IVec S4096x200 1 := cmpi .sge main_arg3 main_v6
  let main_c_3 : IVec S_ 32 := constantI S_ 32 8#32
  let main_v8 : IVec S4096x200 32 := broadcastInDim S4096x200 ![] bcast_S_S4096x200 main_c_3
  let main_v9 : IVec S4096x200 1 := cmpi .slt main_arg3 main_v8
  let main_v10 : IVec S4096x200 1 := andi main_v7 main_v9
  let main_c_4 : IVec S_ 1 := constantI S_ 1 1#1
  let main_v11 : IVec S_ 1 := (fun x v => Host.reduce IntOp.andi x v reducesTo_S4096x200_S_d0_1 h_S_) main_v10 main_c_4
  let main_v12 : IVec S_ 1 := andi main_v5 main_v11
  let main_cst : FVec F S_ .f32 := constant S_ .f32 0x00000000#32
  let main_v13 : FVec F S64 .f32 := broadcastInDim S64 ![] bcast_S_S64 main_cst
  let main_v14 : IVec S64 1 := cmpf .une main_arg11 main_v13
  let main_c_5 : IVec S_ 1 := constantI S_ 1 1#1
  let main_v15 : IVec S_ 1 := (fun x v => Host.reduce IntOp.andi x v reducesTo_S64_S_d0 h_S_) main_v14 main_c_5
  fn_part1 (F := F) main_arg11 main_v12 main_v15
-- ==== Kernel.lean ====
abbrev S4096x200 : Shape := ⟨2, ![4096, 200]⟩
abbrev S7x12 : Shape := ⟨2, ![7, 12]⟩
abbrev S24x12 : Shape := ⟨2, ![24, 12]⟩
abbrev S8x8 : Shape := ⟨2, ![8, 8]⟩
abbrev S10x8 : Shape := ⟨2, ![10, 8]⟩
abbrev S10 : Shape := ⟨1, ![10]⟩
abbrev S42x64 : Shape := ⟨2, ![42, 64]⟩
abbrev S64 : Shape := ⟨1, ![64]⟩
abbrev S400x2048 : Shape := ⟨2, ![400, 2048]⟩
abbrev S_ : Shape := ⟨0, ![]⟩
abbrev S64x48 : Shape := ⟨2, ![64, 48]⟩
abbrev S1 : Shape := ⟨1, ![1]⟩
abbrev S2 : Shape := ⟨1, ![2]⟩
abbrev S48x64 : Shape := ⟨2, ![48, 64]⟩
abbrev S64x1 : Shape := ⟨2, ![64, 1]⟩
abbrev S64x64 : Shape := ⟨2, ![64, 64]⟩
abbrev S1x64 : Shape := ⟨2, ![1, 64]⟩
abbrev S16x1 : Shape := ⟨2, ![16, 1]⟩
abbrev S819200x64 : Shape := ⟨2, ![819200, 64]⟩
abbrev S8x2048 : Shape := ⟨2, ![8, 2048]⟩
abbrev S16384x64 : Shape := ⟨2, ![16384, 64]⟩
abbrev S64x2048 : Shape := ⟨2, ![64, 2048]⟩
abbrev S1x2048 : Shape := ⟨2, ![1, 2048]⟩
abbrev S16x2048 : Shape := ⟨2, ![16, 2048]⟩
abbrev S2048 : Shape := ⟨1, ![2048]⟩
abbrev S2048x64 : Shape := ⟨2, ![2048, 64]⟩
abbrev S4096x200x64 : Shape := ⟨3, ![4096, 200, 64]⟩

abbrev nBuf : Space → Nat
  | .hbm => 90
  | .vmem => 21
  | .smem => 0
  | _ => 0

abbrev bufTy : (tb : Table) → Fin (tcTables nBuf tb) → BufTy
  | .hbm, ⟨0, _⟩ => ⟨S4096x200, .i32⟩
  | .hbm, ⟨1, _⟩ => ⟨S4096x200, .i32⟩
  | .hbm, ⟨2, _⟩ => ⟨S4096x200, .f32⟩
  | .hbm, ⟨3, _⟩ => ⟨S4096x200, .i32⟩
  | .hbm, ⟨4, _⟩ => ⟨S7x12, .f32⟩
  | .hbm, ⟨5, _⟩ => ⟨S24x12, .f32⟩
  | .hbm, ⟨6, _⟩ => ⟨S8x8, .f32⟩
  | .hbm, ⟨7, _⟩ => ⟨S10x8, .f32⟩
  | .hbm, ⟨8, _⟩ => ⟨S10, .f32⟩
  | .hbm, ⟨9, _⟩ => ⟨S42x64, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S400x2048, .i32⟩
  | .hbm, ⟨14, _⟩ => ⟨S400x2048, .i32⟩
  | .hbm, ⟨15, _⟩ => ⟨S400x2048, .f32⟩
  | .hbm, ⟨16, _⟩ => ⟨S400x2048, .i32⟩
  | .hbm, ⟨17, _⟩ => ⟨S_, .f32⟩
  | .hbm, ⟨18, _⟩ => ⟨S64x48, .f32⟩
  | .hbm, ⟨19, _⟩ => ⟨S_, .i32⟩
  | .hbm, ⟨20, _⟩ => ⟨S1, .i32⟩
  | .hbm, ⟨21, _⟩ => ⟨S_, .i32⟩
  | .hbm, ⟨22, _⟩ => ⟨S1, .i32⟩
  | .hbm, ⟨23, _⟩ => ⟨S2, .i32⟩
  | .hbm, ⟨24, _⟩ => ⟨S64x48, .f32⟩
  | .hbm, ⟨25, _⟩ => ⟨S_, .i32⟩
  | .hbm, ⟨26, _⟩ => ⟨S1, .i32⟩
  | .hbm, ⟨27, _⟩ => ⟨S_, .i32⟩
  | .hbm, ⟨28, _⟩ => ⟨S1, .i32⟩
  | .hbm, ⟨29, _⟩ => ⟨S2, .i32⟩
  | .hbm, ⟨30, _⟩ => ⟨S64x48, .f32⟩
  | .hbm, ⟨31, _⟩ => ⟨S_, .i32⟩
  | .hbm, ⟨32, _⟩ => ⟨S1, .i32⟩
  | .hbm, ⟨33, _⟩ => ⟨S_, .i32⟩
  | .hbm, ⟨34, _⟩ => ⟨S1, .i32⟩
  | .hbm, ⟨35, _⟩ => ⟨S2, .i32⟩
  | .hbm, ⟨36, _⟩ => ⟨S64x48, .f32⟩
  | .hbm, ⟨37, _⟩ => ⟨S_, .i32⟩
  | .hbm, ⟨38, _⟩ => ⟨S1, .i32⟩
  | .hbm, ⟨39, _⟩ => ⟨S_, .i32⟩
  | .hbm, ⟨40, _⟩ => ⟨S1, .i32⟩
  | .hbm, ⟨41, _⟩ => ⟨S2, .i32⟩
  | .hbm, ⟨42, _⟩ => ⟨S64x48, .f32⟩
  | .hbm, ⟨43, _⟩ => ⟨S_, .i32⟩
  | .hbm, ⟨44, _⟩ => ⟨S1, .i32⟩
  | .hbm, ⟨45, _⟩ => ⟨S_, .i32⟩
  | .hbm, ⟨46, _⟩ => ⟨S1, .i32⟩
  | .hbm, ⟨47, _⟩ => ⟨S2, .i32⟩
  | .hbm, ⟨48, _⟩ => ⟨S_, .f32⟩
  | .hbm, ⟨49, _⟩ => ⟨S64x48, .f32⟩
  | .hbm, ⟨50, _⟩ => ⟨S_, .i32⟩
  | .hbm, ⟨51, _⟩ => ⟨S1, .i32⟩
  | .hbm, ⟨52, _⟩ => ⟨S_, .i32⟩
  | .hbm, ⟨53, _⟩ => ⟨S1, .i32⟩
  | .hbm, ⟨54, _⟩ => ⟨S2, .i32⟩
  | .hbm, ⟨55, _⟩ => ⟨S_, .f32⟩
  | .hbm, ⟨56, _⟩ => ⟨S64x48, .f32⟩
  | .hbm, ⟨57, _⟩ => ⟨S_, .f32⟩
  | .hbm, ⟨58, _⟩ => ⟨S48x64, .f32⟩
  | .hbm, ⟨59, _⟩ => ⟨S_, .i32⟩
  | .hbm, ⟨60, _⟩ => ⟨S1, .i32⟩
  | .hbm, ⟨61, _⟩ => ⟨S48x64, .f32⟩
  | .hbm, ⟨62, _⟩ => ⟨S64x1, .f32⟩
  | .hbm, ⟨63, _⟩ => ⟨S64x1, .f32⟩
  | .hbm, ⟨64, _⟩ => ⟨S64x1, .f32⟩
  | .hbm, ⟨65, _⟩ => ⟨S64x64, .f32⟩
  | .hbm, ⟨66, _⟩ => ⟨S64x1, .f32⟩
  | .hbm, ⟨67, _⟩ => ⟨S_, .f32⟩
  | .hbm, ⟨68, _⟩ => ⟨S64, .f32⟩
  | .hbm, ⟨69, _⟩ => ⟨S64x64, .i32⟩
  | .hbm, ⟨70, _⟩ => ⟨S64x64, .i32⟩
  | .hbm, ⟨71, _⟩ => ⟨S_, .i32⟩
  | .hbm, ⟨72, _⟩ => ⟨S64x64, .i32⟩
  | .hbm, ⟨73, _⟩ => ⟨S64x64, .i32⟩
  | .hbm, ⟨74, _⟩ => ⟨S64x64, .i1⟩
  | .hbm, ⟨75, _⟩ => ⟨S64x1, .f32⟩
  | .hbm, ⟨76, _⟩ => ⟨S_, .f32⟩
  | .hbm, ⟨77, _⟩ => ⟨S64x64, .f32⟩
  | .hbm, ⟨78, _⟩ => ⟨S64x64, .f32⟩
  | .hbm, ⟨79, _⟩ => ⟨S64x64, .f32⟩
  | .hbm, ⟨80, _⟩ => ⟨S_, .f32⟩
  | .hbm, ⟨81, _⟩ => ⟨S16x1, .f32⟩
  | .hbm, ⟨82, _⟩ => ⟨S_, .i32⟩
  | .hbm, ⟨83, _⟩ => ⟨S1, .i32⟩
  | .hbm, ⟨84, _⟩ => ⟨S_, .i32⟩
  | .hbm, ⟨85, _⟩ => ⟨S1, .i32⟩
  | .hbm, ⟨86, _⟩ => ⟨S2, .i32⟩
  | .hbm, ⟨87, _⟩ => ⟨S16x1, .f32⟩
  | .hbm, ⟨88, _⟩ => ⟨S819200x64, .f32⟩
  | .hbm, ⟨89, _⟩ => ⟨S4096x200x64, .f32⟩
  | .local _ .vmem, ⟨0, _⟩ => ⟨S64x48, .f32⟩
  | .local _ .vmem, ⟨1, _⟩ => ⟨S48x64, .f32⟩
  | .local _ .vmem, ⟨2, _⟩ => ⟨S64x1, .f32⟩
  | .local _ .vmem, ⟨3, _⟩ => ⟨S64x1, .f32⟩
  | .local _ .vmem, ⟨4, _⟩ => ⟨S64x1, .f32⟩
  | .local _ .vmem, ⟨5, _⟩ => ⟨S64x64, .f32⟩
  | .local _ .vmem, ⟨6, _⟩ => ⟨S64x1, .f32⟩
  | .local _ .vmem, ⟨7, _⟩ => ⟨S8x2048, .i32⟩
  | .local _ .vmem, ⟨8, _⟩ => ⟨S8x2048, .i32⟩
  | .local _ .vmem, ⟨9, _⟩ => ⟨S8x2048, .i32⟩
  | .local _ .vmem, ⟨10, _⟩ => ⟨S8x2048, .i32⟩
  | .local _ .vmem, ⟨11, _⟩ => ⟨S8x2048, .f32⟩
  | .local _ .vmem, ⟨12, _⟩ => ⟨S8x2048, .f32⟩
  | .local _ .vmem, ⟨13, _⟩ => ⟨S8x2048, .i32⟩
  | .local _ .vmem, ⟨14, _⟩ => ⟨S8x2048, .i32⟩
  | .local _ .vmem, ⟨15, _⟩ => ⟨S64x64, .f32⟩
  | .local _ .vmem, ⟨16, _⟩ => ⟨S16x1, .f32⟩
  | .local _ .vmem, ⟨17, _⟩ => ⟨S64x64, .f32⟩
  | .local _ .vmem, ⟨18, _⟩ => ⟨S64x1, .f32⟩
  | .local _ .vmem, ⟨19, _⟩ => ⟨S16384x64, .f32⟩
  | .local _ .vmem, ⟨20, _⟩ => ⟨S16384x64, .f32⟩
  | _, _ => ⟨S4096x200, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_c : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_c_1 : Ref sig .tc := ⟨.hbm, 25, rfl⟩
abbrev main_v9 : Ref sig .tc := ⟨.hbm, 26, rfl⟩
abbrev main_c_2 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_c_3 : Ref sig .tc := ⟨.hbm, 31, rfl⟩
abbrev main_v13 : Ref sig .tc := ⟨.hbm, 32, rfl⟩
abbrev main_c_4 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_c_5 : Ref sig .tc := ⟨.hbm, 37, rfl⟩
abbrev main_v17 : Ref sig .tc := ⟨.hbm, 38, rfl⟩
abbrev main_c_6 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_c_7 : Ref sig .tc := ⟨.hbm, 43, rfl⟩
abbrev main_v21 : Ref sig .tc := ⟨.hbm, 44, rfl⟩
abbrev main_c_8 : Ref sig .tc := ⟨.hbm, 45, rfl⟩
abbrev main_v22 : Ref sig .tc := ⟨.hbm, 46, rfl⟩
abbrev main_v23 : Ref sig .tc := ⟨.hbm, 47, rfl⟩
abbrev main_cst_9 : Ref sig .tc := ⟨.hbm, 48, rfl⟩
abbrev main_v24 : Ref sig .tc := ⟨.hbm, 49, rfl⟩
abbrev main_c_10 : Ref sig .tc := ⟨.hbm, 50, rfl⟩
abbrev main_v25 : Ref sig .tc := ⟨.hbm, 51, rfl⟩
abbrev main_c_11 : Ref sig .tc := ⟨.hbm, 52, rfl⟩
abbrev main_v26 : Ref sig .tc := ⟨.hbm, 53, rfl⟩
abbrev main_v27 : Ref sig .tc := ⟨.hbm, 54, rfl⟩
abbrev main_cst_12 : Ref sig .tc := ⟨.hbm, 55, rfl⟩
abbrev main_v28 : Ref sig .tc := ⟨.hbm, 56, rfl⟩
abbrev main_cst_13 : Ref sig .tc := ⟨.hbm, 57, rfl⟩
abbrev main_v29 : Ref sig .tc := ⟨.hbm, 58, rfl⟩
abbrev main_c_14 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35_0 : Ref sig .tc := ⟨.hbm, 65, rfl⟩
abbrev main_v35_1 : Ref sig .tc := ⟨.hbm, 66, rfl⟩
abbrev main_call0_cst : Ref sig .tc := ⟨.hbm, 67, rfl⟩
abbrev main_call0_v0 : Ref sig .tc := ⟨.hbm, 68, rfl⟩
abbrev main_call0_v1 : Ref sig .tc := ⟨.hbm, 69, rfl⟩
abbrev main_call0_v2 : Ref sig .tc := ⟨.hbm, 70, rfl⟩
abbrev main_call0_c : Ref sig .tc := ⟨.hbm, 71, rfl⟩
abbrev main_call0_v3 : Ref sig .tc := ⟨.hbm, 72, rfl⟩
abbrev main_call0_v4 : Ref sig .tc := ⟨.hbm, 73, rfl⟩
abbrev main_call0_v5 : Ref sig .tc := ⟨.hbm, 74, rfl⟩
abbrev main_call0_v6 : Ref sig .tc := ⟨.hbm, 75, rfl⟩
abbrev main_call0_cst_0 : Ref sig .tc := ⟨.hbm, 76, rfl⟩
abbrev main_call0_call0_v0 : Ref sig .tc := ⟨.hbm, 77, rfl⟩
abbrev main_call0_call0_v1 : Ref sig .tc := ⟨.hbm, 78, rfl⟩
abbrev main_v36 : Ref sig .tc := ⟨.hbm, 79, rfl⟩
abbrev main_cst_15 : Ref sig .tc := ⟨.hbm, 80, rfl⟩
abbrev main_v37 : Ref sig .tc := ⟨.hbm, 81, rfl⟩
abbrev main_c_16 : Ref sig .tc := ⟨.hbm, 82, rfl⟩
abbrev main_v38 : Ref sig .tc := ⟨.hbm, 83, rfl⟩
abbrev main_c_17 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg8_1 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem8_1 : DmaSem sig := 20

abbrev nD : Nat := 1
abbrev τ : Topo := Topo.v7x

variable {F : FTy → Type} [FloatOps F]

abbrev grid0 : Pipeline.Grid := .none

abbrev stage0_0 : Fin 1 → Memref sig .tc .vmem S64x48 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S48x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8x2048 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8x2048 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S8x2048 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S16x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S16384x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]
-- ==== KernelIdeal.lean ====
variable {F : FTy → Type} [FloatOps F] [Named F]
def κ : String → Option EReal := fun
  | "minute_angle" => some (((2 * Real.pi) * 1440⁻¹ : ℝ) : EReal)
  | _ => none
-- ==== ReferenceIdeal.lean ====
abbrev S4096x200 : Shape := ⟨2, ![4096, 200]⟩
abbrev S7x12 : Shape := ⟨2, ![7, 12]⟩
abbrev S24x12 : Shape := ⟨2, ![24, 12]⟩
abbrev S8x8 : Shape := ⟨2, ![8, 8]⟩
abbrev S10x8 : Shape := ⟨2, ![10, 8]⟩
abbrev S10 : Shape := ⟨1, ![10]⟩
abbrev S42x64 : Shape := ⟨2, ![42, 64]⟩
abbrev S64 : Shape := ⟨1, ![64]⟩
abbrev S_ : Shape := ⟨0, ![]⟩
abbrev S4096x200x1 : Shape := ⟨3, ![4096, 200, 1]⟩
abbrev S1 : Shape := ⟨1, ![1]⟩
abbrev S1x1x1 : Shape := ⟨3, ![1, 1, 1]⟩
abbrev S4096x200x12 : Shape := ⟨3, ![4096, 200, 12]⟩
abbrev S1x1x10 : Shape := ⟨3, ![1, 1, 10]⟩
abbrev S4096x200x10 : Shape := ⟨3, ![4096, 200, 10]⟩
abbrev S4096x200x8 : Shape := ⟨3, ![4096, 200, 8]⟩
abbrev S4096x200x42 : Shape := ⟨3, ![4096, 200, 42]⟩
abbrev S4096x200x64 : Shape := ⟨3, ![4096, 200, 64]⟩
abbrev S1x1x64 : Shape := ⟨3, ![1, 1, 64]⟩

abbrev nBuf : Space → Nat
  | .hbm => 200
  | .vmem => 0
  | .smem => 0
  | _ => 0

abbrev hbmTy0_0 (i : Nat) : BufTy := match i % 128 with
  | 0 => ⟨S4096x200, .i32⟩
  | 1 => ⟨S4096x200, .i32⟩
  | 2 => ⟨S4096x200, .f32⟩
  | 3 => ⟨S4096x200, .i32⟩
  | 4 => ⟨S7x12, .f32⟩
  | 5 => ⟨S24x12, .f32⟩
  | 6 => ⟨S8x8, .f32⟩
  | 7 => ⟨S10x8, .f32⟩
  | 8 => ⟨S10, .f32⟩
  | 9 => ⟨S42x64, .f32⟩
  | 10 => ⟨S64, .f32⟩
  | 11 => ⟨S64, .f32⟩
  | 12 => ⟨S64, .f32⟩
  | 13 => ⟨S_, .i32⟩
  | 14 => ⟨S4096x200, .i32⟩
  | 15 => ⟨S4096x200, .i1⟩
  | 16 => ⟨S_, .i32⟩
  | 17 => ⟨S4096x200, .i32⟩
  | 18 => ⟨S4096x200, .i32⟩
  | 19 => ⟨S4096x200, .i32⟩
  | 20 => ⟨S4096x200x1, .i32⟩
  | 21 => ⟨S1, .i32⟩
  | 22 => ⟨S_, .i32⟩
  | 23 => ⟨S4096x200x1, .i32⟩
  | 24 => ⟨S4096x200x1, .i1⟩
  | 25 => ⟨S1x1x1, .i32⟩
  | 26 => ⟨S4096x200x1, .i32⟩
  | 27 => ⟨S4096x200x1, .i1⟩
  | 28 => ⟨S4096x200x1, .i1⟩
  | 29 => ⟨S_, .i1⟩
  | 30 => ⟨S4096x200, .i1⟩
  | 31 => ⟨S4096x200x12, .f32⟩
  | 32 => ⟨S4096x200x12, .i1⟩
  | 33 => ⟨S_, .f32⟩
  | 34 => ⟨S4096x200x12, .f32⟩
  | 35 => ⟨S4096x200x12, .f32⟩
  | 36 => ⟨S_, .i32⟩
  | 37 => ⟨S_, .i32⟩
  | 38 => ⟨S4096x200, .i32⟩
  | 39 => ⟨S4096x200, .i32⟩
  | 40 => ⟨S4096x200, .i32⟩
  | 41 => ⟨S_, .i32⟩
  | 42 => ⟨S4096x200, .i32⟩
  | 43 => ⟨S4096x200, .i1⟩
  | 44 => ⟨S4096x200, .i32⟩
  | 45 => ⟨S4096x200, .i32⟩
  | 46 => ⟨S_, .i32⟩
  | 47 => ⟨S4096x200, .i32⟩
  | 48 => ⟨S4096x200, .i1⟩
  | 49 => ⟨S4096x200, .i1⟩
  | 50 => ⟨S_, .i32⟩
  | 51 => ⟨S4096x200, .i32⟩
  | 52 => ⟨S4096x200, .i32⟩
  | 53 => ⟨S4096x200, .i32⟩
  | 54 => ⟨S_, .i32⟩
  | 55 => ⟨S_, .i32⟩
  | 56 => ⟨S_, .i32⟩
  | 57 => ⟨S4096x200, .i32⟩
  | 58 => ⟨S4096x200, .i32⟩
  | 59 => ⟨S_, .i32⟩
  | 60 => ⟨S4096x200, .i32⟩
  | 61 => ⟨S4096x200, .i32⟩
  | 62 => ⟨S_, .i32⟩
  | 63 => ⟨S4096x200, .i32⟩
  | 64 => ⟨S4096x200, .i1⟩
  | 65 => ⟨S_, .i32⟩
  | 66 => ⟨S4096x200, .i32⟩
  | 67 => ⟨S4096x200, .i32⟩
  | 68 => ⟨S4096x200, .i32⟩
  | 69 => ⟨S4096x200x1, .i32⟩
  | 70 => ⟨S1, .i32⟩
  | 71 => ⟨S_, .i32⟩
  | 72 => ⟨S4096x200x1, .i32⟩
  | 73 => ⟨S4096x200x1, .i1⟩
  | 74 => ⟨S1x1x1, .i32⟩
  | 75 => ⟨S4096x200x1, .i32⟩
  | 76 => ⟨S4096x200x1, .i1⟩
  | 77 => ⟨S4096x200x1, .i1⟩
  | 78 => ⟨S_, .i1⟩
  | 79 => ⟨S4096x200, .i1⟩
  | 80 => ⟨S4096x200x12, .f32⟩
  | 81 => ⟨S4096x200x12, .i1⟩
  | 82 => ⟨S_, .f32⟩
  | 83 => ⟨S4096x200x12, .f32⟩
  | 84 => ⟨S4096x200x12, .f32⟩
  | 85 => ⟨S_, .f32⟩
  | 86 => ⟨S_, .f32⟩
  | 87 => ⟨S4096x200, .f32⟩
  | 88 => ⟨S_, .f32⟩
  | 89 => ⟨S4096x200, .f32⟩
  | 90 => ⟨S4096x200, .f32⟩
  | 91 => ⟨S_, .f32⟩
  | 92 => ⟨S4096x200, .f32⟩
  | 93 => ⟨S4096x200, .f32⟩
  | 94 => ⟨S4096x200, .f32⟩
  | 95 => ⟨S4096x200, .f32⟩
  | 96 => ⟨S4096x200, .f32⟩
  | 97 => ⟨S4096x200x1, .f32⟩
  | 98 => ⟨S4096x200, .f32⟩
  | 99 => ⟨S4096x200x1, .f32⟩
  | 100 => ⟨S4096x200, .f32⟩
  | 101 => ⟨S4096x200x1, .f32⟩
  | 102 => ⟨S1x1x10, .f32⟩
  | 103 => ⟨S4096x200x10, .f32⟩
  | 104 => ⟨S4096x200x10, .f32⟩
  | 105 => ⟨S4096x200x10, .i1⟩
  | 106 => ⟨S4096x200x10, .i32⟩
  | 107 => ⟨S_, .i32⟩
  | 108 => ⟨S4096x200, .i32⟩
  | 109 => ⟨S_, .i32⟩
  | 110 => ⟨S4096x200, .i32⟩
  | 111 => ⟨S4096x200, .i32⟩
  | 112 => ⟨S_, .i32⟩
  | 113 => ⟨S_, .i32⟩
  | 114 => ⟨S_, .i32⟩
  | 115 => ⟨S4096x200, .i32⟩
  | 116 => ⟨S4096x200, .i32⟩
  | 117 => ⟨S_, .i32⟩
  | 118 => ⟨S4096x200, .i32⟩
  | 119 => ⟨S4096x200, .i32⟩
  | 120 => ⟨S_, .i32⟩
  | 121 => ⟨S4096x200, .i32⟩
  | 122 => ⟨S4096x200, .i1⟩
  | 123 => ⟨S_, .i32⟩
  | 124 => ⟨S4096x200, .i32⟩
  | 125 => ⟨S4096x200, .i32⟩
  | 126 => ⟨S4096x200, .i32⟩
  | 127 => ⟨S4096x200x1, .i32⟩
  | _ => ⟨S4096x200, .i32⟩

abbrev hbmTy0_1 (i : Nat) : BufTy := match i % 128 with
  | 0 => ⟨S1, .i32⟩
  | 1 => ⟨S_, .i32⟩
  | 2 => ⟨S4096x200x1, .i32⟩
  | 3 => ⟨S4096x200x1, .i1⟩
  | 4 => ⟨S1x1x1, .i32⟩
  | 5 => ⟨S4096x200x1, .i32⟩
  | 6 => ⟨S4096x200x1, .i1⟩
  | 7 => ⟨S4096x200x1, .i1⟩
  | 8 => ⟨S_, .i1⟩
  | 9 => ⟨S4096x200, .i1⟩
  | 10 => ⟨S4096x200x8, .f32⟩
  | 11 => ⟨S4096x200x8, .i1⟩
  | 12 => ⟨S_, .f32⟩
  | 13 => ⟨S4096x200x8, .f32⟩
  | 14 => ⟨S4096x200x8, .f32⟩
  | 15 => ⟨S_, .i32⟩
  | 16 => ⟨S4096x200, .i32⟩
  | 17 => ⟨S4096x200, .i1⟩
  | 18 => ⟨S_, .i32⟩
  | 19 => ⟨S4096x200, .i32⟩
  | 20 => ⟨S4096x200, .i32⟩
  | 21 => ⟨S4096x200, .i32⟩
  | 22 => ⟨S4096x200x1, .i32⟩
  | 23 => ⟨S1, .i32⟩
  | 24 => ⟨S_, .i32⟩
  | 25 => ⟨S4096x200x1, .i32⟩
  | 26 => ⟨S4096x200x1, .i1⟩
  | 27 => ⟨S1x1x1, .i32⟩
  | 28 => ⟨S4096x200x1, .i32⟩
  | 29 => ⟨S4096x200x1, .i1⟩
  | 30 => ⟨S4096x200x1, .i1⟩
  | 31 => ⟨S_, .i1⟩
  | 32 => ⟨S4096x200, .i1⟩
  | 33 => ⟨S4096x200x8, .f32⟩
  | 34 => ⟨S4096x200x8, .i1⟩
  | 35 => ⟨S_, .f32⟩
  | 36 => ⟨S4096x200x8, .f32⟩
  | 37 => ⟨S4096x200x8, .f32⟩
  | 38 => ⟨S4096x200x42, .f32⟩
  | 39 => ⟨S4096x200x64, .f32⟩
  | 40 => ⟨S1x1x64, .f32⟩
  | 41 => ⟨S4096x200x64, .f32⟩
  | 42 => ⟨S4096x200x64, .f32⟩
  | 43 => ⟨S_, .f32⟩
  | 44 => ⟨S4096x200, .f32⟩
  | 45 => ⟨S4096x200x1, .f32⟩
  | 46 => ⟨S_, .f32⟩
  | 47 => ⟨S4096x200x1, .f32⟩
  | 48 => ⟨S4096x200x1, .f32⟩
  | 49 => ⟨S4096x200x64, .f32⟩
  | 50 => ⟨S4096x200x64, .f32⟩
  | 51 => ⟨S4096x200x64, .f32⟩
  | 52 => ⟨S_, .f32⟩
  | 53 => ⟨S4096x200, .f32⟩
  | 54 => ⟨S4096x200x1, .f32⟩
  | 55 => ⟨S_, .f32⟩
  | 56 => ⟨S4096x200x1, .f32⟩
  | 57 => ⟨S4096x200x1, .f32⟩
  | 58 => ⟨S4096x200x64, .f32⟩
  | 59 => ⟨S4096x200x64, .f32⟩
  | 60 => ⟨S_, .f32⟩
  | 61 => ⟨S4096x200x1, .f32⟩
  | 62 => ⟨S4096x200x1, .f32⟩
  | 63 => ⟨S4096x200x1, .f32⟩
  | 64 => ⟨S4096x200x64, .f32⟩
  | 65 => ⟨S4096x200x64, .f32⟩
  | 66 => ⟨S1x1x64, .f32⟩
  | 67 => ⟨S4096x200x64, .f32⟩
  | 68 => ⟨S4096x200x64, .f32⟩
  | 69 => ⟨S1x1x64, .f32⟩
  | 70 => ⟨S4096x200x64, .f32⟩
  | 71 => ⟨S4096x200x64, .f32⟩
  | _ => ⟨S4096x200, .i32⟩

abbrev hbmTy (i : Nat) : BufTy := match i / 128 with
  | 0 => hbmTy0_0 i
  | 1 => hbmTy0_1 i
  | _ => ⟨S4096x200, .i32⟩

abbrev bufTy : (tb : Table) → Fin (tcTables nBuf tb) → BufTy
  | .hbm, ⟨i, _⟩ => hbmTy i
  | _, _ => ⟨S4096x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_cst : Ref sig .tc := ⟨.hbm, 33, rfl⟩
abbrev main_call0_v15 : Ref sig .tc := ⟨.hbm, 34, rfl⟩
abbrev main_v0 : Ref sig .tc := ⟨.hbm, 35, rfl⟩
abbrev main_c : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_c : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_0 : Ref sig .tc := ⟨.hbm, 50, rfl⟩
abbrev main_call1_v12 : Ref sig .tc := ⟨.hbm, 51, rfl⟩
abbrev main_call1_v13 : Ref sig .tc := ⟨.hbm, 52, rfl⟩
abbrev main_v1 : Ref sig .tc := ⟨.hbm, 53, rfl⟩
abbrev main_c_0 : Ref sig .tc := ⟨.hbm, 54, rfl⟩
abbrev main_c_1 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_call2_v3 : Ref sig .tc := ⟨.hbm, 59, rfl⟩
abbrev main_call2_v4 : Ref sig .tc := ⟨.hbm, 60, rfl⟩
abbrev main_v2 : Ref sig .tc := ⟨.hbm, 61, rfl⟩
abbrev main_call3_c : Ref sig .tc := ⟨.hbm, 62, rfl⟩
abbrev main_call3_v0 : Ref sig .tc := ⟨.hbm, 63, rfl⟩
abbrev main_call3_v1 : Ref sig .tc := ⟨.hbm, 64, rfl⟩
abbrev main_call3_c_0 : Ref sig .tc := ⟨.hbm, 65, rfl⟩
abbrev main_call3_v2 : Ref sig .tc := ⟨.hbm, 66, rfl⟩
abbrev main_call3_v3 : Ref sig .tc := ⟨.hbm, 67, rfl⟩
abbrev main_call3_v4 : Ref sig .tc := ⟨.hbm, 68, rfl⟩
abbrev main_call3_v5 : Ref sig .tc := ⟨.hbm, 69, rfl⟩
abbrev main_call3_c_1 : Ref sig .tc := ⟨.hbm, 70, rfl⟩
abbrev main_call3_c_2 : Ref sig .tc := ⟨.hbm, 71, rfl⟩
abbrev main_call3_v6 : Ref sig .tc := ⟨.hbm, 72, rfl⟩
abbrev main_call3_v7 : Ref sig .tc := ⟨.hbm, 73, rfl⟩
abbrev main_call3_v8 : Ref sig .tc := ⟨.hbm, 74, rfl⟩
abbrev main_call3_v9 : Ref sig .tc := ⟨.hbm, 75, rfl⟩
abbrev main_call3_v10 : Ref sig .tc := ⟨.hbm, 76, rfl⟩
abbrev main_call3_v11 : Ref sig .tc := ⟨.hbm, 77, rfl⟩
abbrev main_call3_c_3 : Ref sig .tc := ⟨.hbm, 78, rfl⟩
abbrev main_call3_v12 : Ref sig .tc := ⟨.hbm, 79, rfl⟩
abbrev main_call3_v13 : Ref sig .tc := ⟨.hbm, 80, rfl⟩
abbrev main_call3_v14 : Ref sig .tc := ⟨.hbm, 81, rfl⟩
abbrev main_call3_cst : Ref sig .tc := ⟨.hbm, 82, rfl⟩
abbrev main_call3_v15 : Ref sig .tc := ⟨.hbm, 83, rfl⟩
abbrev main_v3 : Ref sig .tc := ⟨.hbm, 84, rfl⟩
abbrev main_cst : Ref sig .tc := ⟨.hbm, 85, rfl⟩
abbrev main_v4 : Ref sig .tc := ⟨.hbm, 86, rfl⟩
abbrev main_v5 : Ref sig .tc := ⟨.hbm, 87, rfl⟩
abbrev main_cst_2 : Ref sig .tc := ⟨.hbm, 88, rfl⟩
abbrev main_v6 : Ref sig .tc := ⟨.hbm, 89, rfl⟩
abbrev main_v7 : Ref sig .tc := ⟨.hbm, 90, rfl⟩
abbrev main_cst_3 : Ref sig .tc := ⟨.hbm, 91, rfl⟩
abbrev main_v8 : Ref sig .tc := ⟨.hbm, 92, rfl⟩
abbrev main_v9 : Ref sig .tc := ⟨.hbm, 93, rfl⟩
abbrev main_v10 : Ref sig .tc := ⟨.hbm, 94, rfl⟩
abbrev main_v11 : Ref sig .tc := ⟨.hbm, 95, rfl⟩
abbrev main_v12 : Ref sig .tc := ⟨.hbm, 96, rfl⟩
abbrev main_v13 : Ref sig .tc := ⟨.hbm, 97, rfl⟩
abbrev main_v14 : Ref sig .tc := ⟨.hbm, 98, rfl⟩
abbrev main_v15 : Ref sig .tc := ⟨.hbm, 99, rfl⟩
abbrev main_v16 : Ref sig .tc := ⟨.hbm, 100, rfl⟩
abbrev main_v17 : Ref sig .tc := ⟨.hbm, 101, rfl⟩
abbrev main_v18 : Ref sig .tc := ⟨.hbm, 102, rfl⟩
abbrev main_v19 : Ref sig .tc := ⟨.hbm, 103, rfl⟩
abbrev main_v20 : Ref sig .tc := ⟨.hbm, 104, rfl⟩
abbrev main_v21 : Ref sig .tc := ⟨.hbm, 105, rfl⟩
abbrev main_v22 : Ref sig .tc := ⟨.hbm, 106, rfl⟩
abbrev main_c_4 : Ref sig .tc := ⟨.hbm, 107, rfl⟩
abbrev main_v23 : Ref sig .tc := ⟨.hbm, 108, rfl⟩
abbrev main_c_5 : Ref sig .tc := ⟨.hbm, 109, rfl⟩
abbrev main_v24 : Ref sig .tc := ⟨.hbm, 110, rfl⟩
abbrev main_v25 : Ref sig .tc := ⟨.hbm, 111, rfl⟩
abbrev main_c_6 : Ref sig .tc := ⟨.hbm, 112, rfl⟩
abbrev main_c_7 : Ref sig .tc := ⟨.hbm, 113, rfl⟩
abbrev main_call4_v0 : Ref sig .tc := ⟨.hbm, 114, rfl⟩
abbrev main_call4_v1 : Ref sig .tc := ⟨.hbm, 115, rfl⟩
abbrev main_call4_v2 : Ref sig .tc := ⟨.hbm, 116, rfl⟩
abbrev main_call4_v3 : Ref sig .tc := ⟨.hbm, 117, rfl⟩
abbrev main_call4_v4 : Ref sig .tc := ⟨.hbm, 118, rfl⟩
abbrev main_v26 : Ref sig .tc := ⟨.hbm, 119, rfl⟩
abbrev main_call5_c : Ref sig .tc := ⟨.hbm, 120, rfl⟩
abbrev main_call5_v0 : Ref sig .tc := ⟨.hbm, 121, rfl⟩
abbrev main_call5_v1 : Ref sig .tc := ⟨.hbm, 122, rfl⟩
abbrev main_call5_c_0 : Ref sig .tc := ⟨.hbm, 123, rfl⟩
abbrev main_call5_v2 : Ref sig .tc := ⟨.hbm, 124, rfl⟩
abbrev main_call5_v3 : Ref sig .tc := ⟨.hbm, 125, rfl⟩
abbrev main_call5_v4 : Ref sig .tc := ⟨.hbm, 126, rfl⟩
abbrev main_call5_v5 : Ref sig .tc := ⟨.hbm, 127, rfl⟩
abbrev main_call5_c_1 : Ref sig .tc := ⟨.hbm, 128, rfl⟩
abbrev main_call5_c_2 : Ref sig .tc := ⟨.hbm, 129, rfl⟩
abbrev main_call5_v6 : Ref sig .tc := ⟨.hbm, 130, rfl⟩
abbrev main_call5_v7 : Ref sig .tc := ⟨.hbm, 131, rfl⟩
abbrev main_call5_v8 : Ref sig .tc := ⟨.hbm, 132, rfl⟩
abbrev main_call5_v9 : Ref sig .tc := ⟨.hbm, 133, rfl⟩
abbrev main_call5_v10 : Ref sig .tc := ⟨.hbm, 134, rfl⟩
abbrev main_call5_v11 : Ref sig .tc := ⟨.hbm, 135, rfl⟩
abbrev main_call5_c_3 : Ref sig .tc := ⟨.hbm, 136, rfl⟩
abbrev main_call5_v12 : Ref sig .tc := ⟨.hbm, 137, rfl⟩
abbrev main_call5_v13 : Ref sig .tc := ⟨.hbm, 138, rfl⟩
abbrev main_call5_v14 : Ref sig .tc := ⟨.hbm, 139, rfl⟩
abbrev main_call5_cst : Ref sig .tc := ⟨.hbm, 140, rfl⟩
abbrev main_call5_v15 : Ref sig .tc := ⟨.hbm, 141, rfl⟩
abbrev main_v27 : Ref sig .tc := ⟨.hbm, 142, rfl⟩
abbrev main_call6_c : Ref sig .tc := ⟨.hbm, 143, rfl⟩
abbrev main_call6_v0 : Ref sig .tc := ⟨.hbm, 144, rfl⟩
abbrev main_call6_v1 : Ref sig .tc := ⟨.hbm, 145, rfl⟩
abbrev main_call6_c_0 : Ref sig .tc := ⟨.hbm, 146, rfl⟩
abbrev main_call6_v2 : Ref sig .tc := ⟨.hbm, 147, rfl⟩
abbrev main_call6_v3 : Ref sig .tc := ⟨.hbm, 148, rfl⟩
abbrev main_call6_v4 : Ref sig .tc := ⟨.hbm, 149, rfl⟩
abbrev main_call6_v5 : Ref sig .tc := ⟨.hbm, 150, rfl⟩
abbrev main_call6_c_1 : Ref sig .tc := ⟨.hbm, 151, rfl⟩
abbrev main_call6_c_2 : Ref sig .tc := ⟨.hbm, 152, rfl⟩
abbrev main_call6_v6 : Ref sig .tc := ⟨.hbm, 153, rfl⟩
abbrev main_call6_v7 : Ref sig .tc := ⟨.hbm, 154, rfl⟩
abbrev main_call6_v8 : Ref sig .tc := ⟨.hbm, 155, rfl⟩
abbrev main_call6_v9 : Ref sig .tc := ⟨.hbm, 156, rfl⟩
abbrev main_call6_v10 : Ref sig .tc := ⟨.hbm, 157, rfl⟩
abbrev main_call6_v11 : Ref sig .tc := ⟨.hbm, 158, rfl⟩
abbrev main_call6_c_3 : Ref sig .tc := ⟨.hbm, 159, rfl⟩
abbrev main_call6_v12 : Ref sig .tc := ⟨.hbm, 160, rfl⟩
abbrev main_call6_v13 : Ref sig .tc := ⟨.hbm, 161, rfl⟩
abbrev main_call6_v14 : Ref sig .tc := ⟨.hbm, 162, rfl⟩
abbrev main_call6_cst : Ref sig .tc := ⟨.hbm, 163, rfl⟩
abbrev main_call6_v15 : Ref sig .tc := ⟨.hbm, 164, rfl⟩
abbrev main_v28 : Ref sig .tc := ⟨.hbm, 165, rfl⟩
abbrev main_v29 : Ref sig .tc := ⟨.hbm, 166, rfl⟩
abbrev main_v30 : Ref sig .tc := ⟨.hbm, 167, rfl⟩
abbrev main_v31 : Ref sig .tc := ⟨.hbm, 168, rfl⟩
abbrev main_v32 : Ref sig .tc := ⟨.hbm, 169, rfl⟩
abbrev main_v33 : Ref sig .tc := ⟨.hbm, 170, rfl⟩
abbrev main_cst_8 : Ref sig .tc := ⟨.hbm, 171, rfl⟩
abbrev main_v34 : Ref sig .tc := ⟨.hbm, 172, rfl⟩
abbrev main_v35 : Ref sig .tc := ⟨.hbm, 173, rfl⟩
abbrev main_cst_9 : Ref sig .tc := ⟨.hbm, 174, rfl⟩
abbrev main_v36 : Ref sig .tc := ⟨.hbm, 175, rfl⟩
abbrev main_v37 : Ref sig .tc := ⟨.hbm, 176, rfl⟩
abbrev main_v38 : Ref sig .tc := ⟨.hbm, 177, rfl⟩
abbrev main_v39 : Ref sig .tc := ⟨.hbm, 178, rfl⟩
abbrev main_v40 : Ref sig .tc := ⟨.hbm, 179, rfl⟩
abbrev main_cst_10 : Ref sig .tc := ⟨.hbm, 180, rfl⟩
abbrev main_v41 : Ref sig .tc := ⟨.hbm, 181, rfl⟩
abbrev main_v42 : Ref sig .tc := ⟨.hbm, 182, rfl⟩
abbrev main_cst_11 : Ref sig .tc := ⟨.hbm, 183, rfl⟩
abbrev main_v43 : Ref sig .tc := ⟨.hbm, 184, rfl⟩
abbrev main_v44 : Ref sig .tc := ⟨.hbm, 185, rfl⟩
abbrev main_v45 : Ref sig .tc := ⟨.hbm, 186, rfl⟩
abbrev main_v46 : Ref sig .tc := ⟨.hbm, 187, rfl⟩
abbrev main_cst_12 : Ref sig .tc := ⟨.hbm, 188, rfl⟩
abbrev main_v47 : Ref sig .tc := ⟨.hbm, 189, rfl⟩
abbrev main_v48 : Ref sig .tc := ⟨.hbm, 190, rfl⟩
abbrev main_v49 : Ref sig .tc := ⟨.hbm, 191, rfl⟩
abbrev main_v50 : Ref sig .tc := ⟨.hbm, 192, rfl⟩
abbrev main_v51 : Ref sig .tc := ⟨.hbm, 193, rfl⟩
abbrev main_v52 : Ref sig .tc := ⟨.hbm, 194, rfl⟩
abbrev main_v53 : Ref sig .tc := ⟨.hbm, 195, rfl⟩
abbrev main_v54 : Ref sig .tc := ⟨.hbm, 196, rfl⟩
abbrev main_v55 : Ref sig .tc := ⟨.hbm, 197, rfl⟩
abbrev main_v56 : Ref sig .tc := ⟨.hbm, 198, rfl⟩
abbrev main_v57 : Ref sig .tc := ⟨.hbm, 199, rfl⟩

abbrev nD : Nat := 1
abbrev τ : Topo := Topo.v7x

variable {F : FTy → Type} [FloatOps F]
-- ==== Proof.KernelRun.lean ====
module

public import proofs.«01_k».proof.Proof.Gen.KernelIdeal.Frame

@[expose] public section

/-! The kernel program's run with its result named: the generated frame's launch, read at the result buffer too. -/

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- From any memory with zero counters the kernel program runs, its result buffer ends at the last boundary's contents
    of that buffer, and its arguments end as launched. -/
theorem run : θ_run defs (onTc (τ := τ) (main (F := F))) ⟨m, fun _ => 0, ρ⟩ (fun r => ∀ c : Dev nD,
      r.2.mem ((c.tc : Thread nD τ).loc main_v43) = W6 m ρ c (Proc.devRef .tc main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ c =>
      ⟨h c _ (mem_uc main_v43 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c)⟩)

end Cert.KernelIdeal.Run

end

end
-- ==== Proof.RefTake.lean ====
module

public import proofs.«01_k».proof.Proof.Gen.ReferenceIdeal.Run
public import Idealize.ShloMosaic.Lib.Pointwise

@[expose] public section

/-! A table lookup of the reference at an entry: at an index inside the table it is the table's row. -/

set_option maxRecDepth 16384

noncomputable section

namespace Cert.ReferenceIdeal.Value

open Cert.ReferenceIdeal Cert.ReferenceIdeal.Gen
open Idealize.ShloMosaic Idealize.ShloMosaic.TcCoe Idealize.SL Idealize.SL.Sem Idealize.ShloMosaic.StableHlo

/-- The lookup indices with a negative one counted from the table's end. -/
def wrapped (w : IVec S4096x200 32) (n : BitVec 32) : IVec S4096x200x1 32 :=
  broadcastInDim S4096x200x1 ![0, 1] bcast_S4096x200_S4096x200x1_0_1 (select (cmpi .slt w (broadcastInDim S4096x200 ![] bcast_S_S4096x200 (constantI S_ 32 0#32))) (addi w (broadcastInDim S4096x200 ![] bcast_S_S4096x200 (constantI S_ 32 n))) w)

/-- Whether a lookup index lies in the table. -/
def inside (idx : IVec S4096x200x1 32) (last : BitVec 32) : IVec S4096x200 1 :=
  Host.reduce IntOp.andi (andi (cmpi .sge idx (broadcastInDim S4096x200x1 ![] bcast_S_S4096x200x1 (constantI S_ 32 0#32))) (cmpi .sle idx (broadcastInDim S4096x200x1 ![0, 1, 2] bcast_S1x1x1_S4096x200x1_0_1_2 (broadcastInDim S1x1x1 ![2] bcast_S1_S1x1x1_2 (constantI S1 32 last))))) (constantI S_ 1 1#1) reducesTo_S4096x200x1_S4096x200_d2 h_S_

/-- An index that is not negative is not wrapped. -/
theorem wrapped_apply (w : IVec S4096x200 32) (n : BitVec 32) (i : Fin 4096) (l : Fin 200) (a : Nat) (ha : a < 64)
    (hw : w (ix2 i l) = BitVec.ofNat 32 a) : wrapped w n (ix3 i l 0) = BitVec.ofNat 32 a := by
  have h : wrapped w n (ix3 i l 0) = Scalar.select (IntOp.cmpi .slt (w (ix2 i l)) 0#32) (IntOp.addi (w (ix2 i l)) n) (w (ix2 i l)) := by
    pointwise [wrapped]
  have hc : ∀ a : Fin 64, IntOp.cmpi .slt (BitVec.ofNat 32 a.val) 0#32 = 0#1 := by decide +kernel
  rw [h, hw, hc ⟨a, ha⟩]
  rfl

/-- An index no larger than the last lies inside. -/
theorem inside_apply (idx : IVec S4096x200x1 32) (i : Fin 4096) (l : Fin 200) (a n : Nat) (hn : n < 64) (ha : a ≤ n)
    (hw : idx (ix3 i l 0) = BitVec.ofNat 32 a) : inside idx (BitVec.ofNat 32 n) (ix2 i l) = 1#1 := by
  have hc : ∀ n : Fin 64, ∀ a : Fin 64, a ≤ n → IntOp.andi (IntOp.andi (IntOp.cmpi .sge (BitVec.ofNat 32 a.val) 0#32) (IntOp.cmpi .sle (BitVec.ofNat 32 a.val) (BitVec.ofNat 32 n.val))) 1#1 = 1#1 := by decide +kernel
  have h := hc ⟨n, hn⟩ ⟨a, by omega⟩ ha
  have h' : inside idx (BitVec.ofNat 32 n) (ix2 i l) = IntOp.andi (IntOp.andi (IntOp.cmpi .sge (idx (ix3 i l 0)) 0#32) (IntOp.cmpi .sle (idx (ix3 i l 0)) (BitVec.ofNat 32 n))) 1#1 := by
    pointwise [inside]
    exact Finset.fold_singleton
  rw [h', hw]
  exact h

/-- A row lookup reads the row that the start index names. -/
theorem gather_row {N C : Nat} (d : GatherDims ⟨2, ![N, C]⟩ S4096x200x1 ⟨3, ![4096, 200, C]⟩)
    (x : (⟨2, ![N, C]⟩ : Shape).Idx → EReal) (idx : IVec S4096x200x1 32) (i : Fin 4096) (l : Fin 200) (q : Fin C)
    (a : Nat) (ha : a < N) (hN : N ≤ 64) (hw : idx (ix3 i l 0) = BitVec.ofNat 32 a)
    (h0 : (d.operandIdx (ix3 i l q) idx 0).val = min (idx (ix3 i l 0)).toInt.toNat (N - 1))
    (h1 : (d.operandIdx (ix3 i l q) idx 1).val = q.val) : Host.gather d x idx (ix3 i l q) = x (ix2 ⟨a, ha⟩ q) := by
  have e : (BitVec.ofNat 32 a).toInt.toNat = a := by
    rw [BitVec.toInt_eq_toNat_of_lt (by rw [BitVec.toNat_ofNat]; omega), BitVec.toNat_ofNat]
    omega
  unfold Host.gather
  refine congrArg x (funext fun b => ?_)
  match b with
  | ⟨0, _⟩ =>
    refine Fin.ext (h0.trans ?_)
    rw [hw, e]
    show min a (N - 1) = a
    omega
  | ⟨1, _⟩ => exact Fin.ext h1

/-- The lookup of rows of length `C` in a table of `N` rows. -/
abbrev rowDims (N C : Nat)
    (wf : GatherDims.WF ⟨2, ![N, C]⟩ S4096x200x1 ⟨3, ![4096, 200, C]⟩ [2] [0] [] [0] [] 2 ![1, C]) :
    GatherDims ⟨2, ![N, C]⟩ S4096x200x1 ⟨3, ![4096, 200, C]⟩ :=
  ⟨[2], [0], [], [], [0], 2, ![1, C], wf⟩

/-- The row that a lookup reads: the start index, held inside the table. -/
theorem row_read {N C : Nat} (wf) (idx : IVec S4096x200x1 32) (i : Fin 4096) (l : Fin 200) (q : Fin C) :
    ((rowDims N C wf).operandIdx (ix3 i l q) idx 0).val = min (idx (ix3 i l 0)).toInt.toNat (N - 1) := by
  show min (idx _).toInt.toNat _ = _
  congr 4
  funext b
  match b with
  | ⟨0, _⟩ => rfl
  | ⟨1, _⟩ => rfl
  | ⟨2, _⟩ => rfl

/-- The column that a lookup reads. -/
theorem col_read {N C : Nat} (wf) (idx : IVec S4096x200x1 32) (i : Fin 4096) (l : Fin 200) (q : Fin C) :
    ((rowDims N C wf).operandIdx (ix3 i l q) idx 1).val = q.val := by
  show 0 + 0 + q.val = q.val
  omega

/-- A lookup of rows of length 12, a row of the invalid constant where the index lies outside the table. -/
def take12 {N : Nat} (d : GatherDims ⟨2, ![N, 12]⟩ S4096x200x1 S4096x200x12) (last : BitVec 32)
    (x : Vec Ideal ⟨2, ![N, 12]⟩ .f32) (idx : IVec S4096x200x1 32) : Vec Ideal S4096x200x12 .f32 :=
  select (broadcastInDim S4096x200x12 ![0, 1] bcast_S4096x200_S4096x200x12_0_1 (inside idx last)) (Host.gather d x idx)
    (broadcastInDim S4096x200x12 ![] bcast_S_S4096x200x12 (constant (F := Ideal) S_ .f32 0x7FC00000#32))

/-- A lookup at an index inside the table is the table's row. -/
theorem take12_apply {N : Nat} (d : GatherDims ⟨2, ![N, 12]⟩ S4096x200x1 S4096x200x12)
    (x : Vec Ideal ⟨2, ![N, 12]⟩ .f32) (w : IVec S4096x200 32) (n : BitVec 32) (i : Fin 4096) (l : Fin 200) (q : Fin 12)
    (h0 : ∀ idx : IVec S4096x200x1 32, (d.operandIdx (ix3 i l q) idx 0).val = min (idx (ix3 i l 0)).toInt.toNat (N - 1))
    (h1 : ∀ idx : IVec S4096x200x1 32, (d.operandIdx (ix3 i l q) idx 1).val = q.val) (hN : N ≤ 64)
    (a : Fin N) (hw : w (ix2 i l) = BitVec.ofNat 32 a.val) :
    take12 d (BitVec.ofNat 32 (N - 1)) x (wrapped w n) (ix3 i l q) = x (ix2 a q) := by
  have ha := a.isLt
  have e := wrapped_apply w n i l a.val (by omega) hw
  have h : ∀ (idx : IVec S4096x200x1 32) last, take12 d last x idx (ix3 i l q) = Scalar.select (inside idx last (ix2 i l)) (Host.gather d x idx (ix3 i l q))
      (Ideal.ofBits .f32 0x7FC00000#32) := fun idx last => by
    pointwise [take12]
  rw [h, inside_apply _ i l a.val (N - 1) (by omega) (by omega) e, gather_row d x _ i l q a.val ha hN e (h0 _) (h1 _)]
  rfl

/-- A lookup of rows of length 8, a row of the invalid constant where the index lies outside the table. -/
def take8 {N : Nat} (d : GatherDims ⟨2, ![N, 8]⟩ S4096x200x1 S4096x200x8) (last : BitVec 32)
    (x : Vec Ideal ⟨2, ![N, 8]⟩ .f32) (idx : IVec S4096x200x1 32) : Vec Ideal S4096x200x8 .f32 :=
  select (broadcastInDim S4096x200x8 ![0, 1] bcast_S4096x200_S4096x200x8_0_1 (inside idx last)) (Host.gather d x idx)
    (broadcastInDim S4096x200x8 ![] bcast_S_S4096x200x8 (constant (F := Ideal) S_ .f32 0x7FC00000#32))

/-- A lookup at an index inside the table is the table's row. -/
theorem take8_apply {N : Nat} (d : GatherDims ⟨2, ![N, 8]⟩ S4096x200x1 S4096x200x8)
    (x : Vec Ideal ⟨2, ![N, 8]⟩ .f32) (w : IVec S4096x200 32) (n : BitVec 32) (i : Fin 4096) (l : Fin 200) (q : Fin 8)
    (h0 : ∀ idx : IVec S4096x200x1 32, (d.operandIdx (ix3 i l q) idx 0).val = min (idx (ix3 i l 0)).toInt.toNat (N - 1))
    (h1 : ∀ idx : IVec S4096x200x1 32, (d.operandIdx (ix3 i l q) idx 1).val = q.val) (hN : N ≤ 64)
    (a : Fin N) (hw : w (ix2 i l) = BitVec.ofNat 32 a.val) :
    take8 d (BitVec.ofNat 32 (N - 1)) x (wrapped w n) (ix3 i l q) = x (ix2 a q) := by
  have ha := a.isLt
  have e := wrapped_apply w n i l a.val (by omega) hw
  have h : ∀ (idx : IVec S4096x200x1 32) last, take8 d last x idx (ix3 i l q) = Scalar.select (inside idx last (ix2 i l)) (Host.gather d x idx (ix3 i l q))
      (Ideal.ofBits .f32 0x7FC00000#32) := fun idx last => by
    pointwise [take8]
  rw [h, inside_apply _ i l a.val (N - 1) (by omega) (by omega) e, gather_row d x _ i l q a.val ha hN e (h0 _) (h1 _)]
  rfl

end Cert.ReferenceIdeal.Value

end

end
-- ==== Proof.Norm.lean ====
module

public import Idealize.ShloMosaic.PureOps.Ideal
public import Idealize.ShloMosaic.PureOps.Ideal.Laws

@[expose] public section

/-! The arithmetic of the claim, over the extended reals and away from both programs: a layer normalisation of a
    weighted sum equals the normalisation built from the summands with their means already removed, infinite table
    entries included. -/

noncomputable section

namespace Cert.Norm

open Idealize.ShloMosaic

/-- An extended real that is a real number. -/
def IsReal (x : EReal) : Prop := ∃ r : ℝ, x = (r : EReal)

/-- A real number is real. -/
theorem isReal_coe (r : ℝ) : IsReal (r : EReal) := ⟨r, rfl⟩

/-- +∞ is not real. -/
theorem not_isReal_top : ¬ IsReal ⊤ := fun ⟨r, h⟩ => EReal.coe_ne_top r h.symm

/-- −∞ is not real. -/
theorem not_isReal_bot : ¬ IsReal ⊥ := fun ⟨r, h⟩ => EReal.coe_ne_bot r h.symm

/-- A number that is not real is one of the two infinities. -/
theorem not_isReal_iff (x : EReal) : ¬ IsReal x ↔ x = ⊤ ∨ x = ⊥ := by
  induction x using EReal.rec with
  | bot => simp [not_isReal_bot]
  | coe r => simp [isReal_coe]
  | top => simp [not_isReal_top]

/-- A sum of two is real exactly when both are. -/
theorem isReal_add (a b : EReal) : IsReal (a + b) ↔ IsReal a ∧ IsReal b := by
  induction a using EReal.rec with
  | bot => simp [not_isReal_bot]
  | top => induction b using EReal.rec <;> simp [not_isReal_bot, not_isReal_top]
  | coe r =>
    induction b using EReal.rec with
    | bot => simp [not_isReal_bot]
    | top => simp [not_isReal_top]
    | coe s => exact ⟨fun _ => ⟨isReal_coe r, isReal_coe s⟩, fun _ => ⟨r + s, by simp⟩⟩

/-- A negation is real exactly when the number is. -/
theorem isReal_neg (a : EReal) : IsReal (-a) ↔ IsReal a := by
  induction a using EReal.rec with
  | bot => simp [not_isReal_bot, not_isReal_top]
  | top => simp [not_isReal_bot, not_isReal_top]
  | coe r => exact ⟨fun _ => isReal_coe r, fun _ => ⟨-r, by simp⟩⟩

/-- A difference of two is real exactly when both are. -/
theorem isReal_sub (a b : EReal) : IsReal (a - b) ↔ IsReal a ∧ IsReal b := by
  rw [sub_eq_add_neg, isReal_add, isReal_neg]

/-- A finite sum is real exactly when every term is. -/
theorem isReal_sum {ι : Type*} (s : Finset ι) (f : ι → EReal) :
    IsReal (∑ i ∈ s, f i) ↔ ∀ i ∈ s, IsReal (f i) := by
  classical
  induction s using Finset.induction_on with
  | empty => exact ⟨fun _ i hi => absurd hi (Finset.notMem_empty i), fun _ => ⟨0, by simp⟩⟩
  | insert a s ha ih => rw [Finset.sum_insert ha, isReal_add, ih]; simp

/-- A multiple by a nonzero real is real exactly when the number is. -/
theorem isReal_coe_mul {c : ℝ} (hc : c ≠ 0) (x : EReal) : IsReal ((c : EReal) * x) ↔ IsReal x := by
  induction x using EReal.rec with
  | bot =>
    rcases lt_or_gt_of_ne hc with h | h
    · simp [EReal.coe_mul_bot_of_neg h, not_isReal_bot, not_isReal_top]
    · simp [EReal.coe_mul_bot_of_pos h, not_isReal_bot]
  | top =>
    rcases lt_or_gt_of_ne hc with h | h
    · simp [EReal.coe_mul_top_of_neg h, not_isReal_bot, not_isReal_top]
    · simp [EReal.coe_mul_top_of_pos h, not_isReal_top]
  | coe r => exact ⟨fun _ => isReal_coe r, fun _ => ⟨c * r, by simp⟩⟩

/-- The coercion of a finite sum of reals. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The square of an infinity is `⊤`. -/
theorem mul_self_of_not_isReal {x : EReal} (h : ¬ IsReal x) : x * x = ⊤ := by
  rcases (not_isReal_iff x).1 h with rfl | rfl <;> simp

/-- Division by a nonzero real is multiplication by its inverse. -/
theorem div_real (x : EReal) {c : ℝ} (hc : c ≠ 0) : Ideal.div x (c : EReal) = x * ((c⁻¹ : ℝ) : EReal) := by
  unfold Ideal.div
  rw [if_neg (by simpa using hc), EReal.coe_inv]

variable {ι κ : Type} [Fintype ι] [Fintype κ]

/-- A vector with its mean removed; `n` is the number of entries. -/
def centred (n : ℝ) (u : ι → EReal) (j : ι) : EReal := u j - Ideal.div (∑ i, u i) (n : EReal)

/-- The layer normalisation as the reference writes it. -/
def refOut (n : ℝ) (eps : EReal) (h γ β : ι → EReal) (j : ι) : EReal :=
  Ideal.div (centred n h j)
    (Ideal.sqrt (Ideal.div (∑ i, centred n h i * centred n h i) (n : EReal) + eps)) * γ j + β j

/-- The same as the kernel writes it: from a vector `t` already centred, scaled by a diagonal matrix at the end. -/
def kerOut [DecidableEq ι] (w eps : EReal) (t γ β : ι → EReal) (o : ι) : EReal :=
  ∑ j, (t j * Ideal.rsqrt ((∑ i, t i * t i) * w + eps) + Ideal.div (β j) (γ j)) * (if j = o then γ j else 0)

/-- Only the diagonal survives the last product. -/
theorem kerOut_eq [DecidableEq ι] (w eps : EReal) (t γ β : ι → EReal) (o : ι) :
    kerOut w eps t γ β o
      = (t o * Ideal.rsqrt ((∑ i, t i * t i) * w + eps) + Ideal.div (β o) (γ o)) * γ o := by
  unfold kerOut
  rw [Finset.sum_eq_single o]
  · simp
  · intro j _ hj; simp [hj]
  · simp

/-- Dividing the shift by the scale and scaling afterwards gives the shift back, an infinite shift included. -/
theorem shift_scale (a : ℝ) (β : EReal) {g : ℝ} (hg : g ≠ 0) :
    ((a : EReal) + Ideal.div β (g : EReal)) * (g : EReal) = (a : EReal) * (g : EReal) + β := by
  rw [div_real _ hg]
  induction β using EReal.rec with
  | coe r =>
    rw [← EReal.coe_mul, ← EReal.coe_add, ← EReal.coe_mul, ← EReal.coe_mul, ← EReal.coe_add]
    congr 1
    field_simp
  | bot =>
    rcases lt_or_gt_of_ne hg with h | h
    · rw [EReal.bot_mul_coe_of_neg (inv_lt_zero.2 h), EReal.coe_add_top, EReal.top_mul_coe_of_neg h, EReal.add_bot]
    · rw [EReal.bot_mul_coe_of_pos (inv_pos.2 h), EReal.add_bot, EReal.bot_mul_coe_of_pos h, EReal.add_bot]
  | top =>
    rcases lt_or_gt_of_ne hg with h | h
    · rw [EReal.top_mul_coe_of_neg (inv_lt_zero.2 h), EReal.add_bot, EReal.bot_mul_coe_of_neg h, ← EReal.coe_mul,
        EReal.coe_add_top]
    · rw [EReal.top_mul_coe_of_pos (inv_pos.2 h), EReal.coe_add_top, EReal.top_mul_coe_of_pos h, ← EReal.coe_mul,
        EReal.coe_add_top]

/-- If every entry is infinite, so is the sum of the squares. -/
theorem sum_sq_top [Nonempty ι] (x : ι → EReal) (h : ∀ j, ¬ IsReal (x j)) : ∑ i, x i * x i = ⊤ := by
  have e : ∀ i, x i * x i = ⊤ := fun i => mul_self_of_not_isReal (h i)
  obtain ⟨a⟩ := ‹Nonempty ι›
  refine top_le_iff.1 ?_
  calc (⊤ : EReal) = x a * x a := (e a).symm
    _ ≤ ∑ i, x i * x i :=
      Finset.single_le_sum (f := fun i => x i * x i) (fun i _ => by simp [e i]) (Finset.mem_univ a)

/-- Both normalisations of vectors of infinities leave the shift alone. -/
theorem out_of_infinite [DecidableEq ι] [Nonempty ι] {n e : ℝ} (hn : 0 < n) (h t γ β : ι → EReal)
    (hγ : ∀ j, ∃ g : ℝ, g ≠ 0 ∧ γ j = (g : EReal)) (hh : ∀ j, ¬ IsReal (centred n h j)) (ht : ∀ j, ¬ IsReal (t j))
    (o : ι) : kerOut ((n⁻¹ : ℝ) : EReal) (e : EReal) t γ β o = refOut n (e : EReal) h γ β o := by
  obtain ⟨g, hg, hgo⟩ := hγ o
  rw [kerOut_eq]
  unfold refOut
  rw [sum_sq_top _ hh, sum_sq_top _ ht, div_real _ hn.ne', EReal.top_mul_coe_of_pos (inv_pos.2 hn),
    EReal.top_add_coe]
  have h1 : Ideal.rsqrt ⊤ = 0 := rfl
  have h2 : Ideal.sqrt ⊤ = ⊤ := rfl
  have h3 : Ideal.div (centred n h o) ⊤ = 0 := by
    unfold Ideal.div
    rw [if_neg (by simp), EReal.inv_top, mul_zero]
  rw [h1, h2, h3, hgo]
  simpa using shift_scale 0 (β o) hg

/-- Both normalisations of one centred vector of reals agree. -/
theorem out_of_real [DecidableEq ι] {n e : ℝ} (hn : 0 < n) (he : 0 < e) (h t γ β : ι → EReal) (r : ι → ℝ)
    (hγ : ∀ j, ∃ g : ℝ, g ≠ 0 ∧ γ j = (g : EReal)) (hh : ∀ j, centred n h j = (r j : EReal))
    (ht : ∀ j, t j = (r j : EReal)) (o : ι) :
    kerOut ((n⁻¹ : ℝ) : EReal) (e : EReal) t γ β o = refOut n (e : EReal) h γ β o := by
  obtain ⟨g, hg, hgo⟩ := hγ o
  rw [kerOut_eq]
  unfold refOut
  have hs : ∑ i, (r i : EReal) * (r i : EReal) = ((∑ i, r i * r i : ℝ) : EReal) := by
    rw [coe_sum]; exact Finset.sum_congr rfl fun i _ => (EReal.coe_mul _ _).symm
  simp only [hh, ht, hs, hgo]
  have hv : 0 < (∑ i, r i * r i) * n⁻¹ + e :=
    add_pos_of_nonneg_of_pos (mul_nonneg (Finset.sum_nonneg fun i _ => mul_self_nonneg _) (inv_nonneg.2 hn.le)) he
  rw [div_real _ hn.ne', ← EReal.coe_mul, ← EReal.coe_add]
  have h1 : Ideal.rsqrt (((∑ i, r i * r i) * n⁻¹ + e : ℝ) : EReal)
      = ((Real.sqrt ((∑ i, r i * r i) * n⁻¹ + e))⁻¹ : ℝ) := by
    show (if _ then _ else if _ then _ else _) = _
    rw [if_neg hv.not_gt, if_neg hv.ne']
  have h2 : Ideal.sqrt (((∑ i, r i * r i) * n⁻¹ + e : ℝ) : EReal)
      = (Real.sqrt ((∑ i, r i * r i) * n⁻¹ + e) : ℝ) := by
    show (if _ then _ else _) = _
    rw [if_neg hv.not_gt]
  rw [h1, h2, div_real _ (Real.sqrt_pos.2 hv).ne', ← EReal.coe_mul, shift_scale _ _ hg]

/-- Both normalisations agree when the kernel's vector is the weighted sum of the centred summands and the
    reference's is the weighted sum of the summands themselves. The weights are real; the summands and the shift
    may be infinite. -/
theorem out_eq [DecidableEq ι] [Nonempty ι] {n e : ℝ} (hn : 0 < n) (he : 0 < e) (c : κ → ℝ) (u : κ → ι → EReal)
    (h t γ β : ι → EReal) (hγ : ∀ j, ∃ g : ℝ, g ≠ 0 ∧ γ j = (g : EReal))
    (hh : ∀ j, h j = ∑ i, (c i : EReal) * u i j) (ht : ∀ j, t j = ∑ i, (c i : EReal) * centred n (u i) j) (o : ι) :
    kerOut ((n⁻¹ : ℝ) : EReal) (e : EReal) t γ β o = refOut n (e : EReal) h γ β o := by
  by_cases hA : ∀ i, c i ≠ 0 → ∀ j, IsReal (u i j)
  · choose! v hv using hA
    let r : ι → ℝ := fun j => ∑ i, c i * (v i j - (∑ k, v i k) * n⁻¹)
    have hc : ∀ i j, (c i : EReal) * centred n (u i) j = ((c i * (v i j - (∑ k, v i k) * n⁻¹) : ℝ) : EReal) := by
      intro i j
      by_cases h0 : c i = 0
      · simp [h0]
      · unfold centred
        rw [div_real _ hn.ne', Finset.sum_congr rfl fun k _ => hv i h0 k, hv i h0 j, ← coe_sum]
        simp only [EReal.coe_mul, EReal.coe_sub]
    have hu : ∀ j, h j = ((∑ i, c i * v i j : ℝ) : EReal) := by
      intro j
      rw [hh j, coe_sum]
      refine Finset.sum_congr rfl fun i _ => ?_
      by_cases h0 : c i = 0
      · simp [h0]
      · rw [hv i h0 j, EReal.coe_mul]
    refine out_of_real hn he h t γ β r hγ (fun j => ?_) (fun j => ?_) o
    · unfold centred
      rw [div_real _ hn.ne', Finset.sum_congr rfl fun k _ => hu k, hu j, ← coe_sum, ← EReal.coe_mul, ← EReal.coe_sub]
      congr 1
      show _ = ∑ i, c i * (v i j - (∑ k, v i k) * n⁻¹)
      simp only [mul_sub, Finset.sum_sub_distrib]
      congr 1
      rw [Finset.sum_comm, Finset.sum_mul]
      refine Finset.sum_congr rfl fun i _ => ?_
      rw [← Finset.mul_sum, mul_assoc]
    · rw [ht j, coe_sum]
      exact Finset.sum_congr rfl fun i _ => hc i j
  · push Not at hA
    obtain ⟨i, hi, j, hj⟩ := hA
    have hd : ∀ x : EReal, IsReal (Ideal.div x (n : EReal)) ↔ IsReal x := fun x => by
      rw [div_real _ hn.ne', mul_comm, isReal_coe_mul (inv_ne_zero hn.ne')]
    refine out_of_infinite hn h t γ β hγ (fun k hk => ?_) (fun k hk => ?_) o
    · have h1 := (isReal_sum _ _).1 ((hd _).1 ((isReal_sub _ _).1 hk).2) j (Finset.mem_univ j)
      rw [hh j] at h1
      exact hj ((isReal_coe_mul hi _).1 ((isReal_sum _ _).1 h1 i (Finset.mem_univ i)))
    · rw [ht k] at hk
      have h1 := (isReal_coe_mul hi _).1 ((isReal_sum _ _).1 hk i (Finset.mem_univ i))
      exact hj ((isReal_sum _ _).1 ((hd _).1 ((isReal_sub _ _).1 h1).2) j (Finset.mem_univ j))

end Cert.Norm

end

end
-- ==== Proof.Features.lean ====
module

public import proofs.«01_k».proof.Proof.Norm

@[expose] public section

/-! The two ways of writing a token's projected features: the concatenated features times the weights plus the bias, and
    seven rows of the one folded table. No finiteness of the tables or of the weights is assumed. -/

noncomputable section

namespace Cert.Features

open Idealize.ShloMosaic Cert.Norm

variable (t4 : Fin 7 → Fin 12 → EReal) (t5 : Fin 24 → Fin 12 → EReal) (t6 : Fin 8 → Fin 8 → EReal)
  (t7 : Fin 10 → Fin 8 → EReal) (W : Fin 42 → Fin 64 → EReal) (b : Fin 64 → EReal)

/-- The tables laid out in one 64 × 48 matrix, each in its own rows and its own feature columns, with a one in the
    sine's place and a one in the cosine's. -/
def encE (k : Fin 64) (p : Fin 48) : EReal :=
  if k.val = 51 ∧ p.val = 25 then 1 else
  if k.val = 50 ∧ p.val = 24 then 1 else
  if h : (42 ≤ k.val ∧ k.val - 42 < 8) ∧ (34 ≤ p.val ∧ p.val - 34 < 8) then t6 ⟨k.val - 42, h.1.2⟩ ⟨p.val - 34, h.2.2⟩ else
  if h : (32 ≤ k.val ∧ k.val - 32 < 10) ∧ (26 ≤ p.val ∧ p.val - 26 < 8) then t7 ⟨k.val - 32, h.1.2⟩ ⟨p.val - 26, h.2.2⟩ else
  if h : (8 ≤ k.val ∧ k.val - 8 < 24) ∧ (12 ≤ p.val ∧ p.val - 12 < 12) then t5 ⟨k.val - 8, h.1.2⟩ ⟨p.val - 12, h.2.2⟩ else
  if h : (0 ≤ k.val ∧ k.val - 0 < 7) ∧ (0 ≤ p.val ∧ p.val - 0 < 12) then t4 ⟨k.val - 0, h.1.2⟩ ⟨p.val - 0, h.2.2⟩ else 0

/-- The weights padded with zero rows to 48. -/
def encW (p : Fin 48) (j : Fin 64) : EReal :=
  if h : (0 ≤ p.val ∧ p.val - 0 < 42) ∧ (0 ≤ j.val ∧ j.val - 0 < 64) then W ⟨p.val - 0, h.1.2⟩ ⟨j.val - 0, h.2.2⟩ else 0

/-- Row `k` of the folded table: the row's projection, and the bias in row 7. -/
def encT (k : Fin 64) (j : Fin 64) : EReal :=
  (∑ p : Fin 48, encW W p j * encE t4 t5 t6 t7 k p) + (if k.val = 7 then 1 else 0) * b j

/-- The rows a token uses. -/
def pos (a : Fin 7) (h : Fin 24) (d : Fin 10) (t : Fin 8) : Fin 7 → Fin 64 :=
  ![⟨a.val, by omega⟩, ⟨7, by omega⟩, ⟨h.val + 8, by omega⟩, ⟨d.val + 32, by omega⟩, ⟨t.val + 42, by omega⟩,
    ⟨50, by omega⟩, ⟨51, by omega⟩]

/-- What a token multiplies its rows by. -/
def coef (s co : ℝ) : Fin 7 → ℝ := ![1, 1, 1, 1, 1, s, co]

/-- A token's concatenated features. -/
def feat (a : Fin 7) (h : Fin 24) (d : Fin 10) (t : Fin 8) (s co : EReal) (p : Fin 42) : EReal :=
  if hp : p.val < 12 then t4 a ⟨p.val, hp⟩ else
  if hp : p.val - 12 < 12 then t5 h ⟨p.val - 12, hp⟩ else
  if hp : p.val - 12 - 12 < 1 then s else
  if hp : p.val - 12 - 12 - 1 < 1 then co else
  if hp : p.val - 12 - 12 - 1 - 1 < 8 then t7 d ⟨p.val - 12 - 12 - 1 - 1, hp⟩ else
  t6 t ⟨p.val - 12 - 12 - 1 - 1 - 8, by omega⟩

variable {t4 t5 t6 t7 W b}

/-- The encodings’ row of a weekday: its table row in columns 0 … 11. -/
theorem encE_weekday (a : Fin 7) (p : Fin 48) :
    encE t4 t5 t6 t7 ⟨a.val, by omega⟩ p = if h : p.val < 12 then t4 a ⟨p.val, h⟩ else 0 := by
  have := a.isLt
  unfold encE
  split_ifs <;> first | rfl | omega | (exfalso; simp_all; omega) | (exfalso; simp_all; done)

/-- The encodings’ row of the bias is zero. -/
theorem encE_bias (p : Fin 48) : encE t4 t5 t6 t7 ⟨7, by omega⟩ p = 0 := by
  unfold encE
  split_ifs <;> first | rfl | omega | (exfalso; simp_all; omega) | (exfalso; simp_all; done)

/-- The encodings’ row of an hour: its table row in columns 12 … 23. -/
theorem encE_hour (h : Fin 24) (p : Fin 48) : encE t4 t5 t6 t7 ⟨h.val + 8, by omega⟩ p =
    if hp : 12 ≤ p.val ∧ p.val - 12 < 12 then t5 h ⟨p.val - 12, hp.2⟩ else 0 := by
  have := h.isLt
  have e : (⟨h.val + 8 - 8, by omega⟩ : Fin 24) = h := Fin.ext (by show h.val + 8 - 8 = h.val; omega)
  unfold encE
  simp only [e]
  split_ifs <;> first | rfl | omega | (exfalso; simp_all; omega) | (exfalso; simp_all; done)

/-- The encodings’ row of a duration bin: its table row in columns 26 … 33. -/
theorem encE_duration (d : Fin 10) (p : Fin 48) : encE t4 t5 t6 t7 ⟨d.val + 32, by omega⟩ p =
    if hp : 26 ≤ p.val ∧ p.val - 26 < 8 then t7 d ⟨p.val - 26, hp.2⟩ else 0 := by
  have := d.isLt
  have e : (⟨d.val + 32 - 32, by omega⟩ : Fin 10) = d := Fin.ext (by show d.val + 32 - 32 = d.val; omega)
  unfold encE
  simp only [e]
  split_ifs <;> first | rfl | omega | (exfalso; simp_all; omega) | (exfalso; simp_all; done)

/-- The encodings’ row of a time difference: its table row in columns 34 … 41. -/
theorem encE_diff (t : Fin 8) (p : Fin 48) : encE t4 t5 t6 t7 ⟨t.val + 42, by omega⟩ p =
    if hp : 34 ≤ p.val ∧ p.val - 34 < 8 then t6 t ⟨p.val - 34, hp.2⟩ else 0 := by
  have := t.isLt
  have e : (⟨t.val + 42 - 42, by omega⟩ : Fin 8) = t := Fin.ext (by show t.val + 42 - 42 = t.val; omega)
  unfold encE
  simp only [e]
  split_ifs <;> first | rfl | omega | (exfalso; simp_all; omega) | (exfalso; simp_all; done)

/-- The encodings’ row of the sine: a one in column 24. -/
theorem encE_sin (p : Fin 48) : encE t4 t5 t6 t7 ⟨50, by omega⟩ p = if p.val = 24 then 1 else 0 := by
  unfold encE
  split_ifs <;> first | rfl | omega | (exfalso; simp_all; omega) | (exfalso; simp_all; done)

/-- The encodings’ row of the cosine: a one in column 25. -/
theorem encE_cos (p : Fin 48) : encE t4 t5 t6 t7 ⟨51, by omega⟩ p = if p.val = 25 then 1 else 0 := by
  unfold encE
  split_ifs <;> first | rfl | omega | (exfalso; simp_all; omega) | (exfalso; simp_all; done)

/-- A padded weight of one of the 42 features is the weight. -/
theorem encW_of_lt {p : Fin 48} (h : p.val < 42) (j : Fin 64) : encW W p j = W ⟨p.val, h⟩ j := by
  have := j.isLt
  unfold encW
  rw [dif_pos (by omega)]
  rfl

/-- A padded weight past the 42 features is zero. -/
theorem encW_of_le {p : Fin 48} (h : 42 ≤ p.val) (j : Fin 64) : encW W p j = 0 := by
  unfold encW
  rw [dif_neg (by omega)]

/-- One feature times its weight is the sum over the token's seven rows of the row's entry times that weight: only one
    of the seven rows has an entry in that column. -/
theorem feat_mul (a : Fin 7) (h : Fin 24) (d : Fin 10) (t : Fin 8) (s co : ℝ) (p : Fin 42) (j : Fin 64) :
    feat t4 t5 t6 t7 a h d t s co p * W p j =
      ∑ i : Fin 7, (coef s co i : EReal) * (encW W ⟨p.val, by omega⟩ j * encE t4 t5 t6 t7 (pos a h d t i) ⟨p.val, by omega⟩) := by
  have hp := p.isLt
  rw [Fin.sum_univ_seven, encW_of_lt (p := ⟨p.val, by omega⟩) hp]
  simp only [pos, coef, Matrix.cons_val, encE_weekday, encE_bias, encE_hour, encE_duration, encE_diff, encE_sin, encE_cos,
    EReal.coe_one, one_mul, mul_zero, add_zero]
  unfold feat
  have e : (⟨p.val, hp⟩ : Fin 42) = p := rfl
  rcases p with ⟨p, hp'⟩
  simp only at *
  by_cases h1 : p < 12
  · rw [dif_pos h1, dif_pos h1, dif_neg (by omega), dif_neg (by omega), dif_neg (by omega), if_neg (by omega), if_neg (by omega)]
    simp [mul_comm]
  by_cases h2 : p < 24
  · rw [dif_neg h1, dif_pos (by omega), dif_neg h1, dif_pos (by omega), dif_neg (by omega), dif_neg (by omega), if_neg (by omega), if_neg (by omega)]
    simp [mul_comm]
  by_cases h3 : p = 24
  · rw [dif_neg h1, dif_neg (by omega), dif_pos (by omega), dif_neg h1, dif_neg (by omega), dif_neg (by omega), dif_neg (by omega), if_pos h3, if_neg (by omega)]
    simp
  by_cases h4 : p = 25
  · rw [dif_neg h1, dif_neg (by omega), dif_neg (by omega), dif_pos (by omega), dif_neg h1, dif_neg (by omega), dif_neg (by omega), dif_neg (by omega), if_neg h3, if_pos h4]
    simp
  by_cases h5 : p < 34
  · rw [dif_neg h1, dif_neg (by omega), dif_neg (by omega), dif_neg (by omega), dif_pos (by omega), dif_neg h1, dif_neg (by omega), dif_pos (by omega), dif_neg (by omega), if_neg h3, if_neg h4]
    simp [mul_comm, Nat.sub_sub]
  · rw [dif_neg h1, dif_neg (by omega), dif_neg (by omega), dif_neg (by omega), dif_neg (by omega), dif_neg h1, dif_neg (by omega), dif_neg (by omega), dif_pos (by omega), if_neg h3, if_neg h4]
    simp [mul_comm, Nat.sub_sub]

/-- Multiplying by a row's coefficient passes through the row's projection. -/
theorem coef_mul_sum (a : Fin 7) (h : Fin 24) (d : Fin 10) (t : Fin 8) (s co : ℝ) (i : Fin 7) (j : Fin 64) :
    (∑ p : Fin 48, (coef s co i : EReal) * (encW W p j * encE t4 t5 t6 t7 (pos a h d t i) p)) =
      (coef s co i : EReal) * ∑ p : Fin 48, encW W p j * encE t4 t5 t6 t7 (pos a h d t i) p := by
  have h5 : (∑ p : Fin 48, (s : EReal) * (encW W p j * encE t4 t5 t6 t7 ⟨50, by omega⟩ p)) =
      (s : EReal) * ∑ p : Fin 48, encW W p j * encE t4 t5 t6 t7 ⟨50, by omega⟩ p := by
    simp only [encE_sin]
    rw [Finset.sum_eq_single (⟨24, by omega⟩ : Fin 48) (fun p _ hp => by
        rw [if_neg (fun e => hp (Fin.ext e))]; simp) (by simp),
      Finset.sum_eq_single (⟨24, by omega⟩ : Fin 48) (fun p _ hp => by
        rw [if_neg (fun e => hp (Fin.ext e))]; simp) (by simp)]
  have h6 : (∑ p : Fin 48, (co : EReal) * (encW W p j * encE t4 t5 t6 t7 ⟨51, by omega⟩ p)) =
      (co : EReal) * ∑ p : Fin 48, encW W p j * encE t4 t5 t6 t7 ⟨51, by omega⟩ p := by
    simp only [encE_cos]
    rw [Finset.sum_eq_single (⟨25, by omega⟩ : Fin 48) (fun p _ hp => by
        rw [if_neg (fun e => hp (Fin.ext e))]; simp) (by simp),
      Finset.sum_eq_single (⟨25, by omega⟩ : Fin 48) (fun p _ hp => by
        rw [if_neg (fun e => hp (Fin.ext e))]; simp) (by simp)]
  fin_cases i
  case «5» => exact h5
  case «6» => exact h6
  all_goals simp [coef]

/-- A sum over 48 columns whose last six terms vanish is the sum over the first 42. -/
theorem sum_cols (f : Fin 48 → EReal) (h : ∀ p : Fin 48, 42 ≤ p.val → f p = 0) :
    ∑ p : Fin 48, f p = ∑ p : Fin 42, f ⟨p.val, by omega⟩ := by
  have := Fin.sum_univ_add (a := 42) (b := 6) f
  refine this.trans ?_
  rw [Finset.sum_eq_zero (s := (Finset.univ : Finset (Fin 6))) fun p _ => h _ (by simp), add_zero]
  rfl

/-- A row of the folded table other than the bias’s is its encoding times the weights. -/
theorem encT_of_ne {k : Fin 64} (h : k.val ≠ 7) (j : Fin 64) :
    encT t4 t5 t6 t7 W b k j = ∑ p : Fin 48, encW W p j * encE t4 t5 t6 t7 k p := by
  unfold encT
  rw [if_neg h, zero_mul, add_zero]

/-- Row 7 of the folded table is the bias. -/
theorem encT_bias (j : Fin 64) : encT t4 t5 t6 t7 W b ⟨7, by omega⟩ j = b j := by
  unfold encT
  rw [if_pos rfl, one_mul, Finset.sum_eq_zero fun p _ => by rw [encE_bias, mul_zero], zero_add]

/-- The concatenated features times the weights plus the bias are the coefficients times the token's seven rows of the
    folded table. -/
theorem feat_dot (a : Fin 7) (h : Fin 24) (d : Fin 10) (t : Fin 8) (s co : ℝ) (j : Fin 64) :
    (∑ p : Fin 42, feat t4 t5 t6 t7 a h d t s co p * W p j) + b j =
      ∑ i : Fin 7, (coef s co i : EReal) * encT t4 t5 t6 t7 W b (pos a h d t i) j := by
  have e : (∑ p : Fin 42, feat t4 t5 t6 t7 a h d t s co p * W p j) =
      ∑ i : Fin 7, (coef s co i : EReal) * ∑ p : Fin 48, encW W p j * encE t4 t5 t6 t7 (pos a h d t i) p := by
    simp only [feat_mul]
    rw [Finset.sum_comm]
    refine Finset.sum_congr rfl fun i _ => ?_
    rw [← coef_mul_sum, sum_cols _ fun p hp => by rw [encW_of_le hp]; simp]
  have := h.isLt; have := a.isLt
  rw [e, Fin.sum_univ_seven, Fin.sum_univ_seven]
  have hb : encT t4 t5 t6 t7 W b (pos a h d t 1) j = b j := encT_bias j
  rw [encT_of_ne (k := pos a h d t 0) (show a.val ≠ 7 by omega), encT_of_ne (k := pos a h d t 2) (show h.val + 8 ≠ 7 by omega),
    encT_of_ne (k := pos a h d t 3) (show d.val + 32 ≠ 7 by omega), encT_of_ne (k := pos a h d t 4) (show t.val + 42 ≠ 7 by omega),
    encT_of_ne (k := pos a h d t 5) (show 50 ≠ 7 by omega), encT_of_ne (k := pos a h d t 6) (show 51 ≠ 7 by omega), hb]
  have hz : (∑ p : Fin 48, encW W p j * encE t4 t5 t6 t7 (pos a h d t 1) p) = 0 :=
    Finset.sum_eq_zero fun p _ => by rw [show pos a h d t 1 = ⟨7, by omega⟩ from rfl, encE_bias, mul_zero]
  rw [hz, mul_zero, add_zero, show coef s co 1 = 1 from rfl, EReal.coe_one, one_mul]
  ac_rfl

/-- The token's one-hot column with the sine and the cosine in rows 50 and 51. -/
def hot (a h d t : Nat) (s co : EReal) (k : Fin 64) : EReal :=
  if k.val = a ∨ k.val = 7 ∨ k.val = h + 8 ∨ k.val = d + 32 ∨ k.val = t + 42 then 1
  else if k.val = 50 then s else if k.val = 51 then co else 0

/-- A token’s seven rows are different. -/
theorem pos_injective (a : Fin 7) (h : Fin 24) (d : Fin 10) (t : Fin 8) : Function.Injective (pos a h d t) := by
  have := a.isLt; have := h.isLt; have := d.isLt; have := t.isLt
  intro x y e
  have e := congrArg Fin.val e
  fin_cases x <;> fin_cases y <;> first | rfl | (exfalso; simp [pos] at e; done) | (exfalso; simp [pos] at e; omega)

/-- The hot column at one of the token’s seven rows is that row’s coefficient. -/
theorem hot_pos (a : Fin 7) (h : Fin 24) (d : Fin 10) (t : Fin 8) (s co : ℝ) (i : Fin 7) :
    hot a.val h.val d.val t.val s co (pos a h d t i) = (coef s co i : EReal) := by
  have := a.isLt; have := h.isLt; have := d.isLt; have := t.isLt
  have h5 : hot a.val h.val d.val t.val s co ⟨50, by omega⟩ = (s : EReal) := by
    simp only [hot]
    rw [if_neg (by omega)]
    simp
  have h6 : hot a.val h.val d.val t.val s co ⟨51, by omega⟩ = (co : EReal) := by
    simp only [hot]
    rw [if_neg (by omega)]
    simp
  fin_cases i
  case «5» => exact h5
  case «6» => exact h6
  all_goals simp [hot, pos, coef]

/-- The hot column is zero off the token’s seven rows. -/
theorem hot_off (a : Fin 7) (h : Fin 24) (d : Fin 10) (t : Fin 8) (s co : ℝ) (k : Fin 64)
    (hk : ∀ i, pos a h d t i ≠ k) : hot a.val h.val d.val t.val s co k = 0 := by
  have hk' : ∀ i, (pos a h d t i).val ≠ k.val := fun i e => hk i (Fin.ext e)
  have h0 := hk' 0; have h1 := hk' 1; have h2 := hk' 2; have h3 := hk' 3; have h4 := hk' 4; have h5 := hk' 5; have h6 := hk' 6
  simp only [pos, Matrix.cons_val] at h0 h1 h2 h3 h4 h5 h6
  unfold hot
  rw [if_neg (by omega), if_neg (by omega), if_neg (by omega)]

/-- A matrix times the token's column is the coefficients times the token's seven rows. -/
theorem hot_dot (M : Fin 64 → EReal) (a : Fin 7) (h : Fin 24) (d : Fin 10) (t : Fin 8) (s co : ℝ) :
    ∑ k : Fin 64, M k * hot a.val h.val d.val t.val s co k = ∑ i : Fin 7, (coef s co i : EReal) * M (pos a h d t i) := by
  symm
  refine Finset.sum_of_injOn (pos a h d t) (pos_injective a h d t).injOn (fun _ _ => Finset.mem_coe.2 (Finset.mem_univ _))
    (fun k _ hk => ?_) (fun i _ => ?_)
  · rw [hot_off a h d t s co k (fun i e => hk ⟨i, Finset.mem_coe.2 (Finset.mem_univ _), e⟩), mul_zero]
  · rw [hot_pos, mul_comm]

end Cert.Features

end

end
-- ==== Proof.Read.lean ====
module

public import Idealize.ShloMosaic.Lib.ValueIdx

@[expose] public section

/-! Float arrays as functions of their indices. -/

noncomputable section

namespace Cert

open Idealize.ShloMosaic Idealize.ShloMosaic.ValueIdx

/-- A vector of floats as a function of its index. -/
abbrev vec {n : Nat} (x : Vec Ideal ⟨1, ![n]⟩ .f32) (j : Fin n) : EReal := x (ix1 j)

/-- A matrix of floats as a function of its two indices. -/
abbrev mat {n k : Nat} (x : Vec Ideal ⟨2, ![n, k]⟩ .f32) (i : Fin n) (j : Fin k) : EReal := x (ix2 i j)

end Cert

end

end
-- ==== Proof.RefValue.lean ====
module

public import proofs.«01_k».proof.Proof.RefTake
public import proofs.«01_k».proof.Proof.Features
public import proofs.«01_k».proof.Proof.Read

@[expose] public section

/-! The reference's result at an entry: the layer normalisation of the concatenated features times the weights plus the
    bias. -/

set_option maxRecDepth 16384

noncomputable section

namespace Cert.ReferenceIdeal.Value

open Cert.ReferenceIdeal Cert.ReferenceIdeal.Gen
open Idealize.ShloMosaic Idealize.ShloMosaic.TcCoe Idealize.SL Idealize.SL.Sem Idealize.ShloMosaic.StableHlo

/-- Six pieces side by side. -/
def joined (x0 x1 : FVec Ideal S4096x200x12 .f32) (x2 x3 : FVec Ideal S4096x200x1 .f32) (x4 x5 : FVec Ideal S4096x200x8 .f32) :
    FVec Ideal S4096x200x42 .f32 :=
  concatenate S4096x200x42 2 [⟨S4096x200x12, x0⟩, ⟨S4096x200x12, x1⟩, ⟨S4096x200x1, x2⟩, ⟨S4096x200x1, x3⟩, ⟨S4096x200x8, x4⟩, ⟨S4096x200x8, x5⟩]
    concatenates_S4096x200x12_S4096x200x12_S4096x200x1_S4096x200x1_S4096x200x8_S4096x200x8_S4096x200x42_d2

/-- An entry of the six joined pieces: the piece its column falls into. -/
theorem joined_apply (x0 x1 : FVec Ideal S4096x200x12 .f32) (x2 x3 : FVec Ideal S4096x200x1 .f32) (x4 x5 : FVec Ideal S4096x200x8 .f32)
    (i : Fin 4096) (l : Fin 200) (p : Fin 42) : joined x0 x1 x2 x3 x4 x5 (ix3 i l p) =
      if hp : p.val < 12 then x0 (ix3 i l ⟨p.val, hp⟩) else
      if hp : p.val - 12 < 12 then x1 (ix3 i l ⟨p.val - 12, hp⟩) else
      if hp : p.val - 12 - 12 < 1 then x2 (ix3 i l ⟨p.val - 12 - 12, hp⟩) else
      if hp : p.val - 12 - 12 - 1 < 1 then x3 (ix3 i l ⟨p.val - 12 - 12 - 1, hp⟩) else
      if hp : p.val - 12 - 12 - 1 - 1 < 8 then x4 (ix3 i l ⟨p.val - 12 - 12 - 1 - 1, hp⟩) else
      x5 (ix3 i l ⟨p.val - 12 - 12 - 1 - 1 - 8, by omega⟩) := by
  pointwise [joined]

/-- The projection of joined features. -/
def projected (x : FVec Ideal S4096x200x42 .f32) (W : FVec Ideal S42x64 .f32) (b : FVec Ideal S64 .f32) : FVec Ideal S4096x200x64 .f32 :=
  addf (Host.dotGeneral dot_S4096x200x42_S42x64_S4096x200x64_2_0_01_1_n_n none x W) (broadcastInDim S4096x200x64 ![0, 1, 2] bcast_S1x1x64_S4096x200x64_0_1_2 (broadcastInDim S1x1x64 ![2] bcast_S64_S1x1x64_2 b))

/-- An entry of the projection: the features times a column of weights, plus the bias. -/
theorem projected_apply (x : FVec Ideal S4096x200x42 .f32) (W : FVec Ideal S42x64 .f32) (b : FVec Ideal S64 .f32) (i : Fin 4096) (l : Fin 200) (j : Fin 64) :
    projected x W b (ix3 i l j) = (∑ p : Fin 42, x (ix3 i l p) * W (ix2 p j)) + b (ix1 j) := by
  pointwise [projected]

/-- An entry of the projection, from the features entry by entry. -/
theorem projected_of (x : FVec Ideal S4096x200x42 .f32) (W : FVec Ideal S42x64 .f32) (b : FVec Ideal S64 .f32) (i : Fin 4096) (l : Fin 200) (j : Fin 64)
    (f : Fin 42 → EReal) (hf : ∀ p, x (ix3 i l p) = f p) :
    projected x W b (ix3 i l j) = (∑ p : Fin 42, f p * mat (n := 42) (k := 64) W p j) + vec (n := 64) b j := by
  rw [projected_apply]
  simp only [hf]
  rfl

/-- The row means. -/
def rowMean (x : FVec Ideal S4096x200x64 .f32) : FVec Ideal S4096x200x1 .f32 :=
  Host.divf (broadcastInDim S4096x200x1 ![0, 1] bcast_S4096x200_S4096x200x1_0_1 (Host.reduceAdd x (constant (F := Ideal) S_ .f32 0x00000000#32) reducesTo_S4096x200x64_S4096x200_d2 h_S_)) (broadcastInDim S4096x200x1 ![] bcast_S_S4096x200x1 (constant (F := Ideal) S_ .f32 0x42800000#32))

/-- The mean of a token’s row. -/
theorem rowMean_apply (x : FVec Ideal S4096x200x64 .f32) (i : Fin 4096) (l : Fin 200) :
    rowMean x (ix3 i l 0) = Ideal.div (∑ j : Fin 64, x (ix3 i l j)) (Ideal.ofBits .f32 0x42800000#32) := by
  pointwise [rowMean]

/-- The layer normalisation as the reference's operations compute it. -/
def normed (h : FVec Ideal S4096x200x64 .f32) (g b : FVec Ideal S64 .f32) : FVec Ideal S4096x200x64 .f32 :=
  addf (mulf (Host.divf (subf h (broadcastInDim S4096x200x64 ![0, 1, 2] bcast_S4096x200x1_S4096x200x64_0_1_2 (rowMean h))) (broadcastInDim S4096x200x64 ![0, 1, 2] bcast_S4096x200x1_S4096x200x64_0_1_2 (Host.sqrt (addf (rowMean (mulf (subf h (broadcastInDim S4096x200x64 ![0, 1, 2] bcast_S4096x200x1_S4096x200x64_0_1_2 (rowMean h))) (subf h (broadcastInDim S4096x200x64 ![0, 1, 2] bcast_S4096x200x1_S4096x200x64_0_1_2 (rowMean h))))) (broadcastInDim S4096x200x1 ![] bcast_S_S4096x200x1 (constant (F := Ideal) S_ .f32 0x3727C5AC#32)))))) (broadcastInDim S4096x200x64 ![0, 1, 2] bcast_S1x1x64_S4096x200x64_0_1_2 (broadcastInDim S1x1x64 ![2] bcast_S64_S1x1x64_2 g))) (broadcastInDim S4096x200x64 ![0, 1, 2] bcast_S1x1x64_S4096x200x64_0_1_2 (broadcastInDim S1x1x64 ![2] bcast_S64_S1x1x64_2 b))

/-- The word of 64. -/
theorem sixty_four : (Ideal.ofBits .f32 0x42800000#32 : EReal) = ((64 : ℝ) : EReal) := by
  simp [Ideal.ofBits, Ideal.ieee, -EReal.coe_mul]; norm_num

/-- An entry of the layer normalisation. -/
theorem normed_apply (h : FVec Ideal S4096x200x64 .f32) (g b : FVec Ideal S64 .f32) (i : Fin 4096) (l : Fin 200) (o : Fin 64) :
    normed h g b (ix3 i l o) = Cert.Norm.refOut 64 (Ideal.ofBits .f32 0x3727C5AC#32) (fun j => h (ix3 i l j)) (vec g) (vec b) o := by
  unfold Cert.Norm.refOut Cert.Norm.centred
  rw [← sixty_four]
  pointwise [normed, rowMean]
  rfl

/-- A column of one entry per token. -/
def tokenCol (x : FVec Ideal S4096x200 .f32) : FVec Ideal S4096x200x1 .f32 :=
  broadcastInDim S4096x200x1 ![0, 1] bcast_S4096x200_S4096x200x1_0_1 x

/-- An entry of a column of one entry per token. -/
theorem tokenCol_apply (x : FVec Ideal S4096x200 .f32) (i : Fin 4096) (l : Fin 200) (k : Fin 1) :
    tokenCol x (ix3 i l k) = x (ix2 i l) := by
  pointwise [tokenCol]

variable (V0 : Valuation τ sig (Elt Ideal))

/-- The reference's projected features are the projection of six joined pieces. -/
theorem res_v33_eq : res_main_v33 V0 = projected (joined
    (take12 gather_S7x12_S4096x200x1_S4096x200x12_2_0_n_n_0_2_112 (BitVec.ofNat 32 (7 - 1)) (V0 (Proc.devRef .tc main_arg4)) (wrapped (V0 (Proc.devRef .tc main_arg0)) 7#32))
    (take12 gather_S24x12_S4096x200x1_S4096x200x12_2_0_n_n_0_2_112 (BitVec.ofNat 32 (24 - 1)) (V0 (Proc.devRef .tc main_arg5)) (wrapped (res_main_v2 V0) 24#32))
    (tokenCol (Host.sin (res_main_v11 V0 : FVec Ideal S4096x200 .f32))) (tokenCol (Host.cos (res_main_v11 V0 : FVec Ideal S4096x200 .f32)))
    (take8 gather_S10x8_S4096x200x1_S4096x200x8_2_0_n_n_0_2_18 (BitVec.ofNat 32 (10 - 1)) (V0 (Proc.devRef .tc main_arg7)) (wrapped (res_main_v26 V0) 10#32))
    (take8 gather_S8x8_S4096x200x1_S4096x200x8_2_0_n_n_0_2_18 (BitVec.ofNat 32 (8 - 1)) (V0 (Proc.devRef .tc main_arg6)) (wrapped (V0 (Proc.devRef .tc main_arg3)) 8#32)))
    (V0 (Proc.devRef .tc main_arg9)) (V0 (Proc.devRef .tc main_arg10)) := rfl

/-- The reference's projected features at an entry, the four lookup indices being inside their tables. -/
theorem res_v33_apply (i : Fin 4096) (l : Fin 200) (j : Fin 64) (a : Fin 7) (h : Fin 24) (d : Fin 10) (t : Fin 8)
    (ea : (V0 (Proc.devRef .tc main_arg0) : IVec S4096x200 32) (ix2 i l) = BitVec.ofNat 32 a.val)
    (eh : (res_main_v2 V0 : IVec S4096x200 32) (ix2 i l) = BitVec.ofNat 32 h.val)
    (ed : (res_main_v26 V0 : IVec S4096x200 32) (ix2 i l) = BitVec.ofNat 32 d.val)
    (et : (V0 (Proc.devRef .tc main_arg3) : IVec S4096x200 32) (ix2 i l) = BitVec.ofNat 32 t.val) :
    (res_main_v33 V0 : FVec Ideal S4096x200x64 .f32) (ix3 i l j) =
      (∑ p : Fin 42, Cert.Features.feat (mat (n := 7) (k := 12) (V0 (Proc.devRef .tc main_arg4))) (mat (n := 24) (k := 12) (V0 (Proc.devRef .tc main_arg5)))
        (mat (n := 8) (k := 8) (V0 (Proc.devRef .tc main_arg6))) (mat (n := 10) (k := 8) (V0 (Proc.devRef .tc main_arg7))) a h d t
        (Ideal.sin ((res_main_v11 V0 : FVec Ideal S4096x200 .f32) (ix2 i l))) (Ideal.cos ((res_main_v11 V0 : FVec Ideal S4096x200 .f32) (ix2 i l))) p *
          mat (n := 42) (k := 64) (V0 (Proc.devRef .tc main_arg9)) p j) + vec (n := 64) (V0 (Proc.devRef .tc main_arg10)) j := by
  rw [res_v33_eq]
  refine projected_of _ _ _ i l j _ fun p => ?_
  rw [joined_apply]
  unfold Cert.Features.feat
  refine dite_congr rfl (fun hp => ?_) fun _ => dite_congr rfl (fun hp => ?_) fun _ => dite_congr rfl (fun hp => ?_) fun _ =>
    dite_congr rfl (fun hp => ?_) fun _ => dite_congr rfl (fun hp => ?_) fun _ => ?_
  · exact take12_apply _ _ _ _ i l _ (fun idx => row_read (N := 7) _ idx i l _) (fun idx => col_read (N := 7) _ idx i l _) (by omega) a ea
  · exact take12_apply _ _ _ _ i l _ (fun idx => row_read (N := 24) _ idx i l _) (fun idx => col_read (N := 24) _ idx i l _) (by omega) h eh
  · exact tokenCol_apply _ i l _
  · exact tokenCol_apply _ i l _
  · exact take8_apply _ _ _ _ i l _ (fun idx => row_read (N := 10) _ idx i l _) (fun idx => col_read (N := 10) _ idx i l _) (by omega) d ed
  · exact take8_apply _ _ _ _ i l _ (fun idx => row_read (N := 8) _ idx i l _) (fun idx => col_read (N := 8) _ idx i l _) (by omega) t et

/-- The reference's result buffer. -/
abbrev result : FVec Ideal S4096x200x64 .f32 := val2 V0 (Proc.devRef .tc main_v57)

/-- The reference's result at an entry: the layer normalisation of the token's projected features. -/
theorem result_apply (i : Fin 4096) (l : Fin 200) (o : Fin 64) : result V0 (ix3 i l o) =
    Cert.Norm.refOut 64 (Ideal.ofBits .f32 0x3727C5AC#32) (fun j => (res_main_v33 V0 : FVec Ideal S4096x200x64 .f32) (ix3 i l j))
      (vec (n := 64) (V0 (Proc.devRef .tc main_arg11))) (vec (n := 64) (V0 (Proc.devRef .tc main_arg12))) o := by
  have e : result V0 = normed (res_main_v33 V0) (V0 (Proc.devRef .tc main_arg11)) (V0 (Proc.devRef .tc main_arg12)) :=
    (val2_main_v57 V0).trans rfl
  rw [e]
  exact normed_apply _ _ _ i l o

end Cert.ReferenceIdeal.Value

end

end
-- ==== Proof.RowPay.lean ====
module

public import proofs.«01_k».proof.Proof.Gen.KernelIdeal.Frame

@[expose] public section

/-! One row of 2048 tokens of the main kernel: the eight rows of a block are the same function of what each row loads. -/

set_option maxRecDepth 16384

noncomputable section

namespace Cert.KernelIdeal.Row

open Cert.KernelIdeal Cert.KernelIdeal.Gen
open Idealize.ShloMosaic Idealize.SL.Sem

variable {F : FTy → Type} [FloatOps F] [Named F]

/-- What the kernel stores for one row: `w0` … `w3` are the row's weekdays, start minutes, durations and time
    differences, `x4` the folded table, `x5` the padded bins, `x6` the diagonal scale and `x7` the divided shift. -/
def rowPay (w0 w1 : Vec F S1x2048 .i32) (w2 : Vec F S1x2048 .f32) (w3 : Vec F S1x2048 .i32) (x4 : Vec F S64x64 .f32)
    (x5 : Vec F S16x1 .f32) (x6 : Vec F S64x64 .f32) (x7 : Vec F S64x1 .f32) : FVec F S2048x64 .f32 :=
  k1_pay25 (k1_pay1 x4) (k1_pay2 x6) (k1_pay3 x7) (k1_pay14 (F := F) (k1_pay7 w1)) (k1_pay15 (F := F) (k1_pay7 w1))
    (k1_pay16 (F := F) (k1_pay10 w1) (k1_pay11 w1) (k1_pay12 w1) 0#32) (k1_pay17 (k1_pay4 x5) (k1_pay8 w2))
    (k1_pay18 (F := F) (k1_pay9 w3)) (k1_pay19 (k1_pay5 (F := F))) (k1_pay20 (k1_pay5 (F := F)))
    (k1_pay21 (k1_pay5 (F := F))) (k1_pay22 (k1_pay5 (F := F))) (k1_pay23 (k1_pay5 (F := F)) (k1_pay6 w0))
    (k1_pay24 (k1_pay5 (F := F)))

/-- The `k`-th row of an input block. -/
abbrev inRect (k : Fin 8) : Rect S8x2048 := Rect.unit (s := S8x2048) ![k.val, 0] S1x2048.size (by
  intro a; have := k.isLt; match a with
    | ⟨0, _⟩ => show k.val + 1 ≤ 8; omega
    | ⟨1, _⟩ => exact Nat.le_refl 2048)

/-- The rows of an output block lie inside it. -/
theorem outInb (k : Fin 8) : ∀ a, (![2048 * k.val, 0] : Fin 2 → Nat) a + S2048x64.size a ≤ S16384x64.size a := by
  intro a; have := k.isLt; match a with
    | ⟨0, _⟩ => show 2048 * k.val + 2048 ≤ 16384; omega
    | ⟨1, _⟩ => exact Nat.le_refl 64

/-- What a block's output buffer holds: eight rows, each the one payload of its own loads. -/
theorem out1_8_rows (x0 x1 : Vec F S8x2048 .i32) (x2 : Vec F S8x2048 .f32) (x3 : Vec F S8x2048 .i32)
    (x4 : Vec F S64x64 .f32) (x5 : Vec F S16x1 .f32) (x6 : Vec F S64x64 .f32) (x7 : Vec F S64x1 .f32) :
    out1_8 x0 x1 x2 x3 x4 x5 x6 x7 = View.canon (List.ofFn fun k : Fin 8 =>
      (⟨Rect.unit (s := S16384x64) ![2048 * k.rev.val, 0] S2048x64.size (outInb k.rev),
        rowPay (View.ld x0 (inRect k.rev)) (View.ld x1 (inRect k.rev)) (View.ld x2 (inRect k.rev)) (View.ld x3 (inRect k.rev))
          (View.ld x4 r1_0) (View.ld x5 r1_2) (View.ld x6 r1_0) (View.ld x7 r1_1)⟩ : View.Piece (Elt F) S16384x64 .f32)) := by
  rfl

end Cert.KernelIdeal.Row

end

end
-- ==== Proof.Place.lean ====
module

public import Idealize.ShloMosaic.Lib.Pointwise
public import Idealize.ShloMosaic.Lib.Routing.OpsSet
public import Idealize.ShloMosaic.Lib.Routing.OpsPair

@[expose] public section

/-! Placing a block in a matrix: a scatter with one literal start, read at an index. -/

set_option maxRecDepth 16384

noncomputable section

namespace Cert.Place

open Idealize.ShloMosaic

variable {α : Type} {R C : Nat} {si : Shape} {w : Nat}

/-- A scatter that writes an `A × B` block at row `p` and column `q`: inside the block the update, elsewhere the
    operand. -/
theorem block {A B : Nat} (d : ScatterDims ⟨2, ![R, C]⟩ si ⟨2, ![A, B]⟩) (x : (⟨2, ![R, C]⟩ : Shape).Idx → α)
    (idx : IVec si w) (upd : (⟨2, ![A, B]⟩ : Shape).Idx → α) (p q : Nat)
    (h0 : ∀ k, d.start k idx 0 + (d.window k 0 : Int) = ((p + (k 0).val : Nat) : Int))
    (h1 : ∀ k, d.start k idx 1 + (d.window k 1 : Int) = ((q + (k 1).val : Nat) : Int)) (r : Fin R) (c : Fin C) :
    Host.scatter d (fun _ b => b) x idx upd (ix2 r c) =
      if h : (p ≤ r.val ∧ r.val - p < A) ∧ (q ≤ c.val ∧ c.val - q < B) then
        upd (ix2 ⟨r.val - p, h.1.2⟩ ⟨c.val - q, h.2.2⟩) else x (ix2 r c) := by
  have key : ∀ k, d.resultIdx? k idx = some (ix2 r c) ↔ p + (k 0).val = r.val ∧ q + (k 1).val = c.val := fun k => by
    refine (Routing.resultIdx?_ix2 d k idx r c).trans ?_
    rw [h0, h1, Int.ofNat_inj, Int.ofNat_inj]
  split
  · next h =>
    refine Routing.scatter_set_hit d x idx upd _ _ (fun k hk => ?_) (ix2 ⟨r.val - p, h.1.2⟩ ⟨c.val - q, h.2.2⟩)
      ((key _).2 ⟨?_, ?_⟩)
    · obtain ⟨e0, e1⟩ := (key k).1 hk
      refine congrArg upd (funext fun a => ?_)
      match a with
      | ⟨0, _⟩ => exact Fin.ext (by show (k 0).val = r.val - p; omega)
      | ⟨1, _⟩ => exact Fin.ext (by show (k 1).val = c.val - q; omega)
    · show p + (r.val - p) = r.val; omega
    · show q + (c.val - q) = c.val; omega
  · next h =>
    refine Routing.scatter_set_miss d x idx upd _ fun k hk => h ?_
    obtain ⟨e0, e1⟩ := (key k).1 hk
    have := (k 0).isLt
    have := (k 1).isLt
    have b0 : (k 0).val < A := (k 0).isLt
    have b1 : (k 1).val < B := (k 1).isLt
    omega

/-- A scatter that writes one element at row `p` and column `q`. -/
theorem single (d : ScatterDims ⟨2, ![R, C]⟩ si ⟨0, ![]⟩) (x : (⟨2, ![R, C]⟩ : Shape).Idx → α)
    (idx : IVec si w) (upd : (⟨0, ![]⟩ : Shape).Idx → α) (p q : Nat)
    (h0 : ∀ k, d.start k idx 0 + (d.window k 0 : Int) = (p : Int))
    (h1 : ∀ k, d.start k idx 1 + (d.window k 1 : Int) = (q : Int)) (r : Fin R) (c : Fin C) :
    Host.scatter d (fun _ b => b) x idx upd (ix2 r c) =
      if r.val = p ∧ c.val = q then upd ix0 else x (ix2 r c) := by
  have key : ∀ k, d.resultIdx? k idx = some (ix2 r c) ↔ p = r.val ∧ q = c.val := fun k => by
    refine (Routing.resultIdx?_ix2 d k idx r c).trans ?_
    rw [h0, h1, Int.ofNat_inj, Int.ofNat_inj]
  split
  · next h =>
    refine Routing.scatter_set_hit d x idx upd _ _ (fun k hk => ?_) ix0 ((key _).2 ⟨h.1.symm, h.2.symm⟩)
    exact congrArg upd (funext fun a => a.elim0)
  · next h => exact Routing.scatter_set_miss d x idx upd _ fun k hk => h ⟨((key k).1 hk).1.symm, ((key k).1 hk).2.symm⟩

/-- A scatter that writes a vector of `A` down column `q` from row `p`. -/
theorem column {A : Nat} (d : ScatterDims ⟨2, ![R, C]⟩ si ⟨1, ![A]⟩) (x : (⟨2, ![R, C]⟩ : Shape).Idx → α)
    (idx : IVec si w) (upd : (⟨1, ![A]⟩ : Shape).Idx → α) (p q : Nat)
    (h0 : ∀ k, d.start k idx 0 + (d.window k 0 : Int) = ((p + (k 0).val : Nat) : Int))
    (h1 : ∀ k, d.start k idx 1 + (d.window k 1 : Int) = (q : Int)) (r : Fin R) (c : Fin C) :
    Host.scatter d (fun _ b => b) x idx upd (ix2 r c) =
      if h : (p ≤ r.val ∧ r.val - p < A) ∧ c.val = q then upd (ix1 ⟨r.val - p, h.1.2⟩) else x (ix2 r c) := by
  have key : ∀ k, d.resultIdx? k idx = some (ix2 r c) ↔ p + (k 0).val = r.val ∧ q = c.val := fun k => by
    refine (Routing.resultIdx?_ix2 d k idx r c).trans ?_
    rw [h0, h1, Int.ofNat_inj, Int.ofNat_inj]
  split
  · next h =>
    refine Routing.scatter_set_hit d x idx upd _ _ (fun k hk => ?_) (ix1 ⟨r.val - p, h.1.2⟩) ((key _).2 ⟨?_, h.2.symm⟩)
    · obtain ⟨e0, e1⟩ := (key k).1 hk
      refine congrArg upd (funext fun a => ?_)
      match a with
      | ⟨0, _⟩ => exact Fin.ext (by show (k 0).val = r.val - p; omega)
    · show p + (r.val - p) = r.val; omega
  · next h =>
    refine Routing.scatter_set_miss d x idx upd _ fun k hk => h ?_
    obtain ⟨e0, e1⟩ := (key k).1 hk
    have b0 : (k 0).val < A := (k 0).isLt
    omega

end Cert.Place

end

end
-- ==== Proof.HostValue.lean ====
module

public import proofs.«01_k».proof.Proof.RowPay
public import proofs.«01_k».proof.Proof.Place
public import proofs.«01_k».proof.Proof.Features
public import Idealize.ShloMosaic.Lib.Pointwise
public import Idealize.ShloMosaic.Lib.Claim
public import Idealize.ShloMosaic.Lib.StableHlo.RunRead

@[expose] public section

/-! What the host code around the two grids leaves in the buffers the grids read, entry by entry. -/

set_option maxRecDepth 16384

noncomputable section

namespace Cert.KernelIdeal.Row

open Cert.KernelIdeal Cert.KernelIdeal.Gen
open Idealize.ShloMosaic Idealize.ShloMosaic.TcCoe Idealize.SL Idealize.SL.Sem Idealize.ShloMosaic.StableHlo

/-- A vector of two words, the start of a scattered block. -/
def pair (a b : BitVec 32) : IVec S2 32 :=
  concatenate S2 0 [⟨S1, broadcastInDim S1 ![] bcast_S_S1 (constantI S_ 32 a)⟩,
    ⟨S1, broadcastInDim S1 ![] bcast_S_S1 (constantI S_ 32 b)⟩] concatenates_S1_S1_S2_d0

/-- The first word of a pair. -/
theorem pair_0 (a b : BitVec 32) (i : S2.Idx) (h : (i 0).val = 0) : pair a b i = a := by
  obtain rfl : i = ix1 0 := funext fun k => match k with | ⟨0, _⟩ => Fin.ext h
  pointwise [pair]

/-- The second word of a pair. -/
theorem pair_1 (a b : BitVec 32) (i : S2.Idx) (h : (i 0).val = 1) : pair a b i = b := by
  obtain rfl : i = ix1 1 := funext fun k => match k with | ⟨0, _⟩ => Fin.ext h
  pointwise [pair]

/-- The word zero, alone in a vector. -/
def origin : IVec S1 32 := broadcastInDim S1 ![] bcast_S_S1 (constantI S_ 32 0#32)

/-- The origin is the word zero. -/
theorem origin_at (i : S1.Idx) : origin i = 0#32 := by
  obtain rfl : i = ix1 0 := funext fun k => match k with | ⟨0, _⟩ => Fin.ext (by have h : (i 0).val < 1 := (i 0).isLt; show (i 0).val = 0; omega)
  pointwise [origin]

variable (m : (ℓ : Loc nD τ sig) → Buf (Elt Ideal) ℓ) (ρ : Dev nD → PrngReg) (c : Dev nD)

/-- The placement of an `A × B` block in the 64 × 48 encodings at a start of two words. -/
abbrev blockDims (A B : Nat) (wf : ScatterDims.WF S64x48 S2 ⟨2, ![A, B]⟩ [0, 1] [] [0, 1] 0) : ScatterDims S64x48 S2 ⟨2, ![A, B]⟩ :=
  ⟨[0, 1], [], [0, 1], 0, wf⟩

/-- The row that an entry of the block goes to. -/
theorem block_row {A B : Nat} (wf) (k) (idx : IVec S2 32) :
    (blockDims A B wf).start k idx 0 + ((blockDims A B wf).window k 0 : Int) = (idx (ix1 0)).toInt + ((k 0).val : Int) := by
  have e : (blockDims A B wf).start k idx 0 = (idx (ix1 0)).toInt := by
    show (idx _).toInt = _
    congr 2
    funext b
    match b with
    | ⟨0, _⟩ => rfl
  rw [e]
  rfl

/-- The column that an entry of the block goes to. -/
theorem block_col {A B : Nat} (wf) (k) (idx : IVec S2 32) :
    (blockDims A B wf).start k idx 1 + ((blockDims A B wf).window k 1 : Int) = (idx (ix1 1)).toInt + ((k 1).val : Int) := by
  have e : (blockDims A B wf).start k idx 1 = (idx (ix1 1)).toInt := by
    show (idx _).toInt = _
    congr 2
    funext b
    match b with
    | ⟨0, _⟩ => rfl
  rw [e]
  rfl

/-- The word of a small number, read signed, is the number. -/
theorem toInt_small {p : Nat} (hp : p < 64) : (BitVec.ofNat 32 p).toInt = (p : Int) := by
  rw [BitVec.toInt_eq_toNat_cond, BitVec.toNat_ofNat]
  split_ifs <;> omega

/-- The encodings after a block is placed at row `p` and column `q`. -/
theorem placed {A B : Nat} (wf) (x : S64x48.Idx → EReal) (upd : (⟨2, ![A, B]⟩ : Shape).Idx → EReal) {p q : Nat}
    (hp : p < 64) (hq : q < 64) (r : Fin 64) (c : Fin 48) :
    Host.scatter (blockDims A B wf) (fun _ b => b) x (pair (BitVec.ofNat 32 p) (BitVec.ofNat 32 q)) upd (ix2 r c) =
      if h : (p ≤ r.val ∧ r.val - p < A) ∧ (q ≤ c.val ∧ c.val - q < B) then
        upd (ix2 ⟨r.val - p, h.1.2⟩ ⟨c.val - q, h.2.2⟩) else x (ix2 r c) := by
  refine Cert.Place.block _ _ _ _ p q (fun k => ?_) (fun k => ?_) r c
  · rw [block_row, pair_0 _ _ _ rfl, toInt_small hp]; push_cast; rfl
  · rw [block_col, pair_1 _ _ _ rfl, toInt_small hq]; push_cast; rfl

/-- The start of a single element in the 64 × 48 encodings, in each direction. -/
theorem one_start (k) (idx : IVec S2 32) :
    scatter_S64x48_S2_S__n_01_01_0.start k idx 0 = (idx (ix1 0)).toInt ∧
      scatter_S64x48_S2_S__n_01_01_0.start k idx 1 = (idx (ix1 1)).toInt := by
  constructor <;>
  · show (idx _).toInt = _
    congr 2
    funext b
    match b with
    | ⟨0, _⟩ => rfl

/-- The encodings after one element is placed at row `p` and column `q`. -/
theorem placed_one (x : S64x48.Idx → EReal) (upd : S_.Idx → EReal) {p q : Nat} (hp : p < 64) (hq : q < 64) (r : Fin 64)
    (c : Fin 48) : Host.scatter scatter_S64x48_S2_S__n_01_01_0 (fun _ b => b) x (pair (BitVec.ofNat 32 p) (BitVec.ofNat 32 q)) upd (ix2 r c) =
      if r.val = p ∧ c.val = q then upd ix0 else x (ix2 r c) := by
  refine Cert.Place.single _ _ _ _ p q (fun k => ?_) (fun k => ?_) r c
  · rw [(one_start k _).1, pair_0 _ _ _ rfl, toInt_small hp]; exact add_zero _
  · rw [(one_start k _).2, pair_1 _ _ _ rfl, toInt_small hq]; exact add_zero _

/-- The scattered encodings, as the host builds them. -/
theorem W1_v28 : (W1 m ρ c (Proc.devRef .tc main_v28) : Vec Ideal S64x48 .f32) =
    (Host.scatter scatter_S64x48_S2_S__n_01_01_0 (fun _ b => b) (Host.scatter scatter_S64x48_S2_S__n_01_01_0 (fun _ b => b) (Host.scatter scatter_S64x48_S2_S8x8_01_n_01_0 (fun _ b => b) (Host.scatter scatter_S64x48_S2_S10x8_01_n_01_0 (fun _ b => b) (Host.scatter scatter_S64x48_S2_S24x12_01_n_01_0 (fun _ b => b) (Host.scatter scatter_S64x48_S2_S7x12_01_n_01_0 (fun _ b => b) (broadcastInDim S64x48 ![] bcast_S_S64x48 (constant (F := Ideal) S_ FTy.f32 0#32)) (pair 0#32 0#32) (m (c.tc.loc main_arg4) : Vec Ideal S7x12 .f32)) (pair 8#32 12#32) (m (c.tc.loc main_arg5) : Vec Ideal S24x12 .f32)) (pair 32#32 26#32) (m (c.tc.loc main_arg7) : Vec Ideal S10x8 .f32)) (pair 42#32 34#32) (m (c.tc.loc main_arg6) : Vec Ideal S8x8 .f32)) (pair 50#32 24#32) (constant (F := Ideal) S_ FTy.f32 1065353216#32)) (pair 51#32 25#32) (constant (F := Ideal) S_ FTy.f32 1065353216#32)) := by
  unfold W1
  after_results
  rfl

/-- The word of zero. -/
theorem zero_f32 : (Ideal.ofBits .f32 0x00000000#32 : EReal) = 0 := by
  simp [Ideal.ofBits, Ideal.ieee]

/-- The word of one. -/
theorem one_f32 : (Ideal.ofBits .f32 0x3F800000#32 : EReal) = 1 := by
  simp [Ideal.ofBits, Ideal.ieee, -EReal.coe_mul]; norm_num

/-- An entry of the scattered encodings. -/
theorem W1_v28_apply (k : Fin 64) (p : Fin 48) : (W1 m ρ c (Proc.devRef .tc main_v28) : Vec Ideal S64x48 .f32) (ix2 k p) =
    Cert.Features.encE (fun a q => (m (c.tc.loc main_arg4) : Vec Ideal S7x12 .f32) (ix2 a q)) (fun a q => (m (c.tc.loc main_arg5) : Vec Ideal S24x12 .f32) (ix2 a q))
      (fun a q => (m (c.tc.loc main_arg6) : Vec Ideal S8x8 .f32) (ix2 a q)) (fun a q => (m (c.tc.loc main_arg7) : Vec Ideal S10x8 .f32) (ix2 a q)) k p := by
  rw [W1_v28]
  refine (placed_one _ _ (p := 51) (q := 25) (by norm_num) (by norm_num) k p).trans ?_
  rw [placed_one _ _ (p := 50) (q := 24) (by norm_num) (by norm_num) k p]
  rw [show Host.scatter scatter_S64x48_S2_S8x8_01_n_01_0 (fun _ b => b) _ _ _ (ix2 k p) = _ from
    placed (A := 8) (B := 8) _ _ _ (p := 42) (q := 34) (by norm_num) (by norm_num) k p]
  rw [show Host.scatter scatter_S64x48_S2_S10x8_01_n_01_0 (fun _ b => b) _ _ _ (ix2 k p) = _ from
    placed (A := 10) (B := 8) _ _ _ (p := 32) (q := 26) (by norm_num) (by norm_num) k p]
  rw [show Host.scatter scatter_S64x48_S2_S24x12_01_n_01_0 (fun _ b => b) _ _ _ (ix2 k p) = _ from
    placed (A := 24) (B := 12) _ _ _ (p := 8) (q := 12) (by norm_num) (by norm_num) k p]
  rw [show Host.scatter scatter_S64x48_S2_S7x12_01_n_01_0 (fun _ b => b) _ _ _ (ix2 k p) = _ from
    placed (A := 7) (B := 12) _ _ _ (p := 0) (q := 0) (by norm_num) (by norm_num) k p]
  unfold Cert.Features.encE
  refine if_congr Iff.rfl one_f32 (if_congr Iff.rfl one_f32 ?_)
  refine dite_congr rfl (fun _ => rfl) fun _ => dite_congr rfl (fun _ => rfl) fun _ => dite_congr rfl (fun _ => rfl) fun _ =>
    dite_congr rfl (fun _ => rfl) fun _ => zero_f32

/-- The row that a weight goes to in the padded weights. -/
theorem start_W_0 (k) : scatter_S48x64_S1_S42x64_01_n_0_0.start k origin 0 + (scatter_S48x64_S1_S42x64_01_n_0_0.window k 0 : Int) =
    ((0 + (k 0).val : Nat) : Int) := by
  have e : ∀ idx : IVec S1 32, scatter_S48x64_S1_S42x64_01_n_0_0.start k idx 0 = (idx (ix1 0)).toInt := fun idx => by
    show (idx _).toInt = _
    congr 2
    funext b
    match b with
    | ⟨0, _⟩ => rfl
  rw [e, origin_at]
  show (0 : Int) + ((k 0).val : Int) = _
  push_cast; rfl

/-- The column that a weight goes to in the padded weights. -/
theorem start_W_1 (k) : scatter_S48x64_S1_S42x64_01_n_0_0.start k origin 1 + (scatter_S48x64_S1_S42x64_01_n_0_0.window k 1 : Int) =
    ((0 + (k 1).val : Nat) : Int) := by
  show (0 : Int) + ((k 1).val : Int) = _
  push_cast; rfl

/-- The padded weights, as the host builds them. -/
theorem W1_v31 : (W1 m ρ c (Proc.devRef .tc main_v31) : Vec Ideal S48x64 .f32) = Host.scatter scatter_S48x64_S1_S42x64_01_n_0_0 (fun _ b => b)
      (broadcastInDim S48x64 ![] bcast_S_S48x64 (constant (F := Ideal) S_ FTy.f32 0#32)) origin (m (c.tc.loc main_arg9) : Vec Ideal S42x64 .f32) := by
  unfold W1
  after_results
  rfl

/-- An entry of the padded weights. -/
theorem W1_v31_apply (p : Fin 48) (j : Fin 64) : (W1 m ρ c (Proc.devRef .tc main_v31) : Vec Ideal S48x64 .f32) (ix2 p j) =
    Cert.Features.encW (fun p j => (m (c.tc.loc main_arg9) : Vec Ideal S42x64 .f32) (ix2 p j)) p j := by
  rw [W1_v31, Cert.Place.block _ _ _ _ 0 0 start_W_0 start_W_1]
  unfold Cert.Features.encW
  exact dite_congr rfl (fun _ => rfl) fun _ => zero_f32

/-- A vector reshaped to a column. -/
theorem cast_column {α : Type} (x : S64.Idx → α) (h) (j : Fin 64) : shapeCast S64x1 x h (ix2 j 0) = x (ix1 j) := by
  pointwise []

/-- The bias as a column. -/
theorem W1_v32_apply (j : Fin 64) : (W1 m ρ c (Proc.devRef .tc main_v32) : Vec Ideal S64x1 .f32) (ix2 j 0) =
    (m (c.tc.loc main_arg10) : Vec Ideal S64 .f32) (ix1 j) := by
  have e : W1 m ρ c (Proc.devRef .tc main_v32) = shapeCast S64x1 (m (c.tc.loc main_arg10) : Vec Ideal S64 .f32) shapeCasts_S64_S64x1 := by
    unfold W1
    after_results
    rfl
  rw [e, cast_column]

/-- The shift as a column. -/
theorem W1_v33_apply (j : Fin 64) : (W1 m ρ c (Proc.devRef .tc main_v33) : Vec Ideal S64x1 .f32) (ix2 j 0) =
    (m (c.tc.loc main_arg12) : Vec Ideal S64 .f32) (ix1 j) := by
  have e : W1 m ρ c (Proc.devRef .tc main_v33) = shapeCast S64x1 (m (c.tc.loc main_arg12) : Vec Ideal S64 .f32) shapeCasts_S64_S64x1 := by
    unfold W1
    after_results
    rfl
  rw [e, cast_column]

/-- The scale as a column. -/
theorem W1_v34_apply (j : Fin 64) : (W1 m ρ c (Proc.devRef .tc main_v34) : Vec Ideal S64x1 .f32) (ix2 j 0) =
    (m (c.tc.loc main_arg11) : Vec Ideal S64 .f32) (ix1 j) := by
  have e : W1 m ρ c (Proc.devRef .tc main_v34) = shapeCast S64x1 (m (c.tc.loc main_arg11) : Vec Ideal S64 .f32) shapeCasts_S64_S64x1 := by
    unfold W1
    after_results
    rfl
  rw [e, cast_column]

end Cert.KernelIdeal.Row

end

end
-- ==== Proof.Carry.lean ====
module

public import proofs.«01_k».proof.Proof.HostValue
public import proofs.«01_k».proof.Proof.Read
public import Idealize.ShloMosaic.Lib.Pipeline.ValueKit

@[expose] public section

/-! The buffers that the main grid reads, entry by entry: the reshaped inputs, the diagonal of scales, the padded bin
    edges, and the two results of the folding grid. -/

set_option maxRecDepth 16384

noncomputable section

namespace Cert.KernelIdeal.Row

open Cert.KernelIdeal Cert.KernelIdeal.Gen
open Idealize.ShloMosaic Idealize.ShloMosaic.TcCoe Idealize.SL Idealize.SL.Sem Idealize.ShloMosaic.StableHlo

variable (m : (ℓ : Loc nD τ sig) → Buf (Elt Ideal) ℓ) (ρ : Dev nD → PrngReg) (c : Dev nD)

/-- A buffer that no host operation after the first stretch writes and that is no output of the folding grid holds what
    the first stretch left in it. -/
theorem V4_first (b : Ref sig .tc) (h4 : b ∉ hostOps1_1_W) (h3 : b ∉ hostOps1_W)
    (h2 : ∀ w : Fin cfg0.W, Pipeline.arrRef spec0 w = b → (cfg0.win w).isOut = false) :
    V4 m ρ c b = W1 m ρ c (Proc.devRef .tc b) :=
  (W4_of m ρ c b h4).trans ((W3_of m ρ c b h3).trans (W2_of m ρ c b h2))

/-- The index of a token among the 4096 × 200. -/
abbrev tok (r : Fin 400) (x : Fin 2048) : S4096x200.Idx :=
  ix2 ⟨(2048 * r.val + x.val) / 200, by omega⟩ ⟨(2048 * r.val + x.val) % 200, by omega⟩

/-- An array of tokens, reshaped to rows of 2048, at a row and a column. -/
theorem cast_tok {α : Type} (x : S4096x200.Idx → α) (h) (r : Fin 400) (y : Fin 2048) :
    shapeCast S400x2048 x h (ix2 r y) = x (tok r y) := by
  pointwise []
  simp only [Nat.mul_comm r.val 2048]

/-- The weekdays the main grid reads. -/
theorem V4_v0 (r : Fin 400) (y : Fin 2048) : (V4 m ρ c main_v0 : Vec Ideal S400x2048 .i32) (ix2 r y) =
    (m (c.tc.loc main_arg0) : Vec Ideal S4096x200 .i32) (tok r y) := by
  have e : W1 m ρ c (Proc.devRef .tc main_v0) = shapeCast S400x2048 (m (c.tc.loc main_arg0) : Vec Ideal S4096x200 .i32) shapeCasts_S4096x200_S400x2048 := by
    unfold W1
    after_results
    rfl
  rw [V4_first m ρ c main_v0 (by decide) (by decide) (by decide), e, cast_tok]

/-- The start minutes the main grid reads. -/
theorem V4_v1 (r : Fin 400) (y : Fin 2048) : (V4 m ρ c main_v1 : Vec Ideal S400x2048 .i32) (ix2 r y) =
    (m (c.tc.loc main_arg1) : Vec Ideal S4096x200 .i32) (tok r y) := by
  have e : W1 m ρ c (Proc.devRef .tc main_v1) = shapeCast S400x2048 (m (c.tc.loc main_arg1) : Vec Ideal S4096x200 .i32) shapeCasts_S4096x200_S400x2048 := by
    unfold W1
    after_results
    rfl
  rw [V4_first m ρ c main_v1 (by decide) (by decide) (by decide), e, cast_tok]

/-- The durations the main grid reads. -/
theorem V4_v2 (r : Fin 400) (y : Fin 2048) : (V4 m ρ c main_v2 : Vec Ideal S400x2048 .f32) (ix2 r y) =
    (m (c.tc.loc main_arg2) : Vec Ideal S4096x200 .f32) (tok r y) := by
  have e : W1 m ρ c (Proc.devRef .tc main_v2) = shapeCast S400x2048 (m (c.tc.loc main_arg2) : Vec Ideal S4096x200 .f32) shapeCasts_S4096x200_S400x2048 := by
    unfold W1
    after_results
    rfl
  rw [V4_first m ρ c main_v2 (by decide) (by decide) (by decide), e, cast_tok]

/-- The time differences the main grid reads. -/
theorem V4_v3 (r : Fin 400) (y : Fin 2048) : (V4 m ρ c main_v3 : Vec Ideal S400x2048 .i32) (ix2 r y) =
    (m (c.tc.loc main_arg3) : Vec Ideal S4096x200 .i32) (tok r y) := by
  have e : W1 m ρ c (Proc.devRef .tc main_v3) = shapeCast S400x2048 (m (c.tc.loc main_arg3) : Vec Ideal S4096x200 .i32) shapeCasts_S4096x200_S400x2048 := by
    unfold W1
    after_results
    rfl
  rw [V4_first m ρ c main_v3 (by decide) (by decide) (by decide), e, cast_tok]

/-- The diagonal of the scales. -/
theorem V4_v36 (j o : Fin 64) : (V4 m ρ c main_v36 : Vec Ideal S64x64 .f32) (ix2 j o) =
    if j = o then vec (n := 64) (m (c.tc.loc main_arg11)) j else 0 := by
  have e : (W3 m ρ c (Proc.devRef .tc main_v36) : Vec Ideal S64x64 .f32) =
      select (cmpi .eq (addi (iotaInDim S64x64 32 0) (broadcastInDim S64x64 ![] bcast_S_S64x64 (constantI S_ 32 0#32))) (iotaInDim S64x64 32 1))
        (broadcastInDim S64x64 ![0, 1] bcast_S64x1_S64x64_0_1 (broadcastInDim S64x1 ![0] bcast_S64_S64x1_0
          (pad S64 ![0] ![0] ![0] (W2 m ρ c (Proc.tc.devRef main_arg11) : Vec Ideal S64 .f32) (constant (F := Ideal) S_ FTy.f32 0#32) pads_S64_S64_000 h_S_)))
        (broadcastInDim S64x64 ![] bcast_S_S64x64 (constant (F := Ideal) S_ FTy.f32 0#32)) := by
    unfold W3
    after_results
    rfl
  rw [show V4 m ρ c main_v36 = W3 m ρ c (Proc.devRef .tc main_v36) from W4_of m ρ c main_v36 (by decide), e,
    W2_args m ρ c main_arg11 (by decide)]
  pointwise []
  have hj : (BitVec.ofNat 32 j.val = BitVec.ofNat 32 o.val) ↔ j = o := by
    constructor
    · intro h
      have h := congrArg BitVec.toNat h
      simp only [BitVec.toNat_ofNat] at h
      exact Fin.ext (by omega)
    · rintro rfl; rfl
  by_cases h : j = o
  · subst h
    simp [IntOp.addi, IntOp.cmpi, Scalar.select]
    rfl
  · rw [if_neg h]
    have : ¬ BitVec.ofNat 32 j.val = BitVec.ofNat 32 o.val := fun e => h (hj.1 e)
    simp [IntOp.addi, IntOp.cmpi, Scalar.select]
    intro h'
    rw [beq_eq_false_iff_ne.2 this] at h'
    exact absurd h' (by decide)

/-- The row that a bin edge goes to: its own number. -/
theorem start_bins_0 (k) : scatter_S16x1_S2_S10_0_1_01_0.start k (pair 0#32 0#32) 0 + (scatter_S16x1_S2_S10_0_1_01_0.window k 0 : Int) = ((0 + (k 0).val : Nat) : Int) := by
  have e : ∀ idx : IVec S2 32, scatter_S16x1_S2_S10_0_1_01_0.start k idx 0 = (idx (ix1 0)).toInt := fun idx => by
    show (idx _).toInt = _
    congr 2
    funext b
    match b with
    | ⟨0, _⟩ => rfl
  rw [e, pair_0 _ _ _ rfl]
  show (0 : Int) + ((k 0).val : Int) = _
  push_cast; rfl

/-- The column that a bin edge goes to: the first. -/
theorem start_bins_1 (k) : scatter_S16x1_S2_S10_0_1_01_0.start k (pair 0#32 0#32) 1 + (scatter_S16x1_S2_S10_0_1_01_0.window k 1 : Int) = ((0 : Nat) : Int) := by
  have e : ∀ idx : IVec S2 32, scatter_S16x1_S2_S10_0_1_01_0.start k idx 1 = (idx (ix1 1)).toInt := fun idx => by
    show (idx _).toInt = _
    congr 2
    funext b
    match b with
    | ⟨0, _⟩ => rfl
  rw [e, pair_1 _ _ _ rfl]
  rfl

/-- The word of +∞. -/
theorem top_f32 : (Ideal.ofBits .f32 0x7F800000#32 : EReal) = ⊤ := by
  simp [Ideal.ofBits, Ideal.ieee]

/-- The bin edges, padded to sixteen with +∞. -/
theorem V4_v41 (x : Fin 16) : (V4 m ρ c main_v41 : Vec Ideal S16x1 .f32) (ix2 x 0) =
    if h : x.val < 10 then vec (n := 10) (m (c.tc.loc main_arg8)) ⟨x.val, h⟩ else ⊤ := by
  have e : (V4 m ρ c main_v41 : Vec Ideal S16x1 .f32) =
      Host.scatter scatter_S16x1_S2_S10_0_1_01_0 (fun _ b => b)
      (broadcastInDim S16x1 ![] bcast_S_S16x1 (constant (F := Ideal) S_ FTy.f32 2139095040#32))
      (pair 0#32 0#32) (m (c.tc.loc main_arg8) : Vec Ideal S10 .f32) := by
    rw [← W2_args m ρ c main_arg8 (by decide)]
    show W4 m ρ c (Proc.devRef .tc main_v41) = _
    unfold W4
    after_results
    rfl
  rw [e, Cert.Place.column _ _ _ _ 0 0 start_bins_0 start_bins_1]
  by_cases h : x.val < 10
  · rw [dif_pos ⟨⟨Nat.zero_le _, h⟩, rfl⟩, dif_pos h]
    rfl
  · rw [dif_neg (fun h' => h h'.1.2), dif_neg h]
    exact top_f32

end Cert.KernelIdeal.Row

end

end
-- ==== Proof.RowValue.lean ====
module

public import proofs.«01_k».proof.Proof.RowPay
public import Idealize.ShloMosaic.Lib.Pointwise

@[expose] public section

/-! The value of one row of the main kernel at a token and an output column. -/

set_option maxRecDepth 16384

noncomputable section

namespace Cert.KernelIdeal.Row

open Cert.KernelIdeal Cert.KernelIdeal.Gen
open Idealize.ShloMosaic Idealize.SL.Sem

section
variable {F : FTy → Type} [FloatOps F] [Named F]

/-- The matrix of hot columns, one column for each token of the row. -/
def hotMat (v51 v53 v70 v73 v76 : FVec F S1x2048 .bf16) (v77 v78 v79 v80 : FVec F S16x2048 .bf16)
    (v82 v84 : IVec S16x2048 1) : FVec F S64x2048 .bf16 :=
  have v85 : IVec S16x2048 1 := ori v82 v84
  have v86 : FVec F S16x2048 .bf16 := broadcastTo S16x2048 v70 broadcasts_S1x2048_S16x2048
  have v87 : IVec S16x2048 1 := cmpf .oeq v77 v86
  have v88 : IVec S16x2048 1 := ori v85 v87
  have v89 : IVec S16x2048 32 := extui 32 v88 natLt_1_32
  have v90 : FVec F S16x2048 .f32 := sitofp .f32 v89
  have v91 : FVec F S16x2048 .bf16 := truncf .bf16 v90 bitsLt_bf16_f32
  have v92 : FVec F S16x2048 .bf16 := broadcastTo S16x2048 v70 broadcasts_S1x2048_S16x2048
  have v93 : IVec S16x2048 1 := cmpf .oeq v78 v92
  have v94 : IVec S16x2048 32 := extui 32 v93 natLt_1_32
  have v95 : FVec F S16x2048 .f32 := sitofp .f32 v94
  have v96 : FVec F S16x2048 .bf16 := truncf .bf16 v95 bitsLt_bf16_f32
  have v97 : FVec F S16x2048 .bf16 := broadcastTo S16x2048 v73 broadcasts_S1x2048_S16x2048
  have v98 : IVec S16x2048 1 := cmpf .oeq v79 v97
  have v99 : FVec F S16x2048 .bf16 := broadcastTo S16x2048 v76 broadcasts_S1x2048_S16x2048
  have v100 : IVec S16x2048 1 := cmpf .oeq v79 v99
  have v101 : IVec S16x2048 1 := ori v98 v100
  have v102 : IVec S16x2048 32 := extui 32 v101 natLt_1_32
  have v103 : FVec F S16x2048 .f32 := sitofp .f32 v102
  have v104 : FVec F S16x2048 .bf16 := truncf .bf16 v103 bitsLt_bf16_f32
  have v105 : FVec F S16x2048 .bf16 := broadcastTo S16x2048 v76 broadcasts_S1x2048_S16x2048
  have v106 : IVec S16x2048 1 := cmpf .oeq v80 v105
  have cst_24 : F .bf16 := Scalar.ofBits .bf16 0x4248#16
  have v107 : FVec F S16x2048 .bf16 := broadcast S16x2048 cst_24
  have v108 : IVec S16x2048 1 := cmpf .oeq v80 v107
  have cst_25 : F .bf16 := Scalar.ofBits .bf16 0x424C#16
  have v109 : FVec F S16x2048 .bf16 := broadcast S16x2048 cst_25
  have v110 : IVec S16x2048 1 := cmpf .oeq v80 v109
  have cst_26 : F .bf16 := Scalar.ofBits .bf16 0x0000#16
  have v111 : FVec F S1x2048 .bf16 := shapeCast S1x2048 v53 shapeCasts_S1x2048_S1x2048
  have v112 : FVec F S16x2048 .bf16 := broadcastTo S16x2048 v111 broadcasts_S1x2048_S16x2048
  have v113 : FVec F S16x2048 .bf16 := broadcast S16x2048 cst_26
  have v114 : FVec F S16x2048 .bf16 := select v110 v112 v113
  have v115 : FVec F S1x2048 .bf16 := shapeCast S1x2048 v51 shapeCasts_S1x2048_S1x2048
  have v116 : FVec F S16x2048 .bf16 := broadcastTo S16x2048 v115 broadcasts_S1x2048_S16x2048
  have v117 : FVec F S16x2048 .bf16 := select v108 v116 v114
  have cst_27 : F .bf16 := Scalar.ofBits .bf16 0x3F80#16
  have v118 : FVec F S16x2048 .bf16 := broadcast S16x2048 cst_27
  have v119 : FVec F S16x2048 .bf16 := select v106 v118 v117
  have v120 : FVec F S64x2048 .bf16 := concatenate S64x2048 0 [⟨S16x2048, v91⟩, ⟨S16x2048, v96⟩, ⟨S16x2048, v104⟩, ⟨S16x2048, v119⟩] concatenates_S16x2048_S16x2048_S16x2048_S16x2048_S64x2048_d0
  v120

/-- What follows the hot matrix: the table product, the normalisation and the product with the diagonal scale. -/
def rowTail (v2 : FVec F S64x64 .bf16) (v4 : FVec F S64x64 .f32) (v6 : FVec F S64x1 .f32)
    (v120 : FVec F S64x2048 .bf16) : FVec F S2048x64 .f32 :=
  have cst_28 : FVec F S64x2048 .f32 := constant S64x2048 .f32 0x00000000#32
  have v121 : FVec F S64x2048 .f32 := matmul dot_S64x64_S64x2048_S64x2048_1_0_0_1_n_n none v2 v120 cst_28
  have v122 : FVec F S64x2048 .f32 := mulf v121 v121
  have v123 : FVec F S2048 .f32 := multiReduction .add [0] S2048 v122 0x00000000#32 reduces_S64x2048_S2048 (.inl rfl) rfl
  have v124 : FVec F S1x2048 .f32 := shapeCast S1x2048 v123 shapeCasts_S2048_S1x2048
  have cst_30 : F .f32 := Scalar.ofBits .f32 0x3C800000#32
  have v125 : FVec F S1x2048 .f32 := broadcast S1x2048 cst_30
  have v126 : FVec F S1x2048 .f32 := mulf v124 v125
  have cst_31 : F .f32 := Scalar.ofBits .f32 0x3727C5AC#32
  have v127 : FVec F S1x2048 .f32 := broadcast S1x2048 cst_31
  have v128 : FVec F S1x2048 .f32 := addf v126 v127
  have v129 : FVec F S1x2048 .f32 := rsqrt v128
  have v130 : FVec F S64x2048 .f32 := broadcastTo S64x2048 v129 broadcasts_S1x2048_S64x2048
  have v131 : FVec F S64x2048 .f32 := mulf v121 v130
  have v132 : FVec F S64x2048 .f32 := broadcastTo S64x2048 v6 broadcasts_S64x1_S64x2048
  have v133 : FVec F S64x2048 .f32 := addf v131 v132
  have cst_32 : FVec F S2048x64 .f32 := constant S2048x64 .f32 0x00000000#32
  have v134 : FVec F S2048x64 .f32 := matmul dot_S64x2048_S64x64_S2048x64_0_0_1_1_n_n none v133 v4 cst_32
  v134

/-- The kernel’s last payload is the tail of a row. -/
theorem pay25_eq (v2 : FVec F S64x64 .bf16) (v4 : FVec F S64x64 .f32) (v6 : FVec F S64x1 .f32)
    (v51 v53 v70 v73 v76 : FVec F S1x2048 .bf16) (v77 v78 v79 v80 : FVec F S16x2048 .bf16)
    (v82 v84 : IVec S16x2048 1) :
    k1_pay25 v2 v4 v6 v51 v53 v70 v73 v76 v77 v78 v79 v80 v82 v84 =
      rowTail v2 v4 v6 (hotMat v51 v53 v70 v73 v76 v77 v78 v79 v80 v82 v84) := rfl

end

/-- The part after the hot matrix, at a token `c` and a column `o`, as the closed formula of the normalisation. -/
theorem rowTail_apply (v2 : FVec Ideal S64x64 .bf16) (v4 : FVec Ideal S64x64 .f32) (v6 : FVec Ideal S64x1 .f32)
    (h : FVec Ideal S64x2048 .bf16) (c : Fin 2048) (o : Fin 64) :
    rowTail v2 v4 v6 h (ix2 c o) =
      ∑ j : Fin 64, ((∑ k : Fin 64, v2 (ix2 j k) * h (ix2 k c)) *
          Ideal.rsqrt ((∑ i : Fin 64, (∑ k : Fin 64, v2 (ix2 i k) * h (ix2 k c)) *
            ∑ k : Fin 64, v2 (ix2 i k) * h (ix2 k c)) * Ideal.ofBits FTy.f32 0x3C800000#32 +
              Ideal.ofBits FTy.f32 0x3727C5AC#32) + v6 (ix2 j 0)) * v4 (ix2 j o) := by
  pointwise [rowTail]

/-- The hour of a start minute, as the kernel's integer operations give it: the floored quotient by 60 clamped to 0 … 23. -/
def hourW (s : BitVec 32) : BitVec 32 :=
  IntOp.minsi (23#32) (IntOp.maxsi (0#32)
    (Scalar.select
      (IntOp.andi
        (IntOp.cmpi CmpIPredicate.ne
          (IntOp.subi (BitVec.setWidth 32 (IntOp.cmpi CmpIPredicate.sgt s 0#32))
            (BitVec.setWidth 32 (IntOp.cmpi CmpIPredicate.slt s 0#32)))
          (Scalar.subi (Scalar.extui (Scalar.cmpi CmpIPredicate.sgt 60#32 0#32))
            (Scalar.extui (Scalar.cmpi CmpIPredicate.slt 60#32 0#32))))
        (IntOp.cmpi CmpIPredicate.ne (IntOp.remsi ArithUnit.vector s 60#32) 0#32))
      (IntOp.subi (IntOp.divsi ArithUnit.vector s 60#32) 1#32)
      (IntOp.divsi ArithUnit.vector s 60#32)))

/-- The bin of a duration, as the kernel's integer operations give it: the number of edges below `log1p` of the
    duration, less one, clamped to 0 … 9. -/
def binW (e : Fin 16 → EReal) (d : EReal) : BitVec 32 :=
  IntOp.minsi (9#32) (IntOp.maxsi (0#32) (IntOp.subi
    (Finset.fold IntOp.addi (0#32)
      (fun x => BitVec.setWidth 32 (BitVec.ofBool (decide (e x < Ideal.log1p d)))) Finset.univ) 1#32))

/-- The angle of a start minute in the kernel. -/
def angle (s : BitVec 32) : EReal := (FloatOps.sitofp (F := Ideal) FTy.f32 s : EReal) * Named.named (F := Ideal) κ "minute_angle" 0x3B8EFA35#32

/-- The hot matrix of a row's loads. -/
def rowHot (w0 w1 : Vec Ideal S1x2048 .i32) (w2 : Vec Ideal S1x2048 .f32) (w3 : Vec Ideal S1x2048 .i32)
    (x5 : Vec Ideal S16x1 .f32) : FVec Ideal S64x2048 .bf16 :=
  hotMat (F := Ideal) (k1_pay14 (F := Ideal) (k1_pay7 (F := Ideal) w1)) (k1_pay15 (F := Ideal) (k1_pay7 (F := Ideal) w1))
    (k1_pay16 (F := Ideal) (k1_pay10 (F := Ideal) w1) (k1_pay11 (F := Ideal) w1) (k1_pay12 (F := Ideal) w1) 0#32) (k1_pay17 (F := Ideal) (k1_pay4 (F := Ideal) x5) (k1_pay8 (F := Ideal) w2))
    (k1_pay18 (F := Ideal) (k1_pay9 (F := Ideal) w3)) (k1_pay19 (F := Ideal) (k1_pay5 (F := Ideal))) (k1_pay20 (F := Ideal) (k1_pay5 (F := Ideal)))
    (k1_pay21 (F := Ideal) (k1_pay5 (F := Ideal))) (k1_pay22 (F := Ideal) (k1_pay5 (F := Ideal))) (k1_pay23 (F := Ideal) (k1_pay5 (F := Ideal)) (k1_pay6 (F := Ideal) w0)) (k1_pay24 (F := Ideal) (k1_pay5 (F := Ideal)))

/-- A condition widened and converted is one or zero. -/
theorem sitofp_ofBool (φ : FTy) (p : Bool) :
    (FloatOps.sitofp (F := Ideal) φ (BitVec.setWidth 32 (BitVec.ofBool p)) : EReal) = if p = true then 1 else 0 := by
  show (((BitVec.setWidth 32 (BitVec.ofBool p)).toInt : ℝ) : EReal) = _
  cases p
  · rw [show (BitVec.setWidth 32 (BitVec.ofBool false)).toInt = 0 by decide]; simp
  · rw [show (BitVec.setWidth 32 (BitVec.ofBool true)).toInt = 1 by decide]; simp

/-- The `or` of two conditions. -/
theorem ori_ofBool (p q : Bool) : IntOp.ori (BitVec.ofBool p) (BitVec.ofBool q) = BitVec.ofBool (p || q) := by
  revert p q; decide

/-- The sum of two words of numbers. -/
theorem addi_ofNat (a b : Nat) : IntOp.addi (BitVec.ofNat 32 a) (BitVec.ofNat 32 b) = BitVec.ofNat 32 (a + b) :=
  (BitVec.ofNat_add a b).symm

/-- A small number converted is itself. -/
theorem sitofp_ofNat (φ : FTy) {w : Nat} (hw : 16 ≤ w) (n : Nat) (h : n < 64) :
    (FloatOps.sitofp (F := Ideal) φ (BitVec.ofNat w n) : EReal) = ((n : ℝ) : EReal) := by
  show (((BitVec.ofNat w n).toInt : ℝ) : EReal) = _
  have h1 : (2 : Nat) ^ 16 ≤ 2 ^ w := Nat.pow_le_pow_right (by norm_num) hw
  have h2 : (BitVec.ofNat w n).toNat = n := by
    rw [BitVec.toNat_ofNat]; exact Nat.mod_eq_of_lt (by omega)
  have h3 : (BitVec.ofNat w n).toInt = (n : Int) := by
    rw [BitVec.toInt_eq_toNat_of_lt (by omega), h2]
  rw [h3]; norm_cast

/-- The bf16 word of 7. -/
theorem seven : Ideal.ofBits FTy.bf16 0x40E0#16 = (((7 : Nat) : ℝ) : EReal) := by
  simp [Ideal.ofBits, Ideal.ieee, -EReal.coe_mul]; norm_num

/-- The bf16 word of 50. -/
theorem fifty : Ideal.ofBits FTy.bf16 0x4248#16 = (((50 : Nat) : ℝ) : EReal) := by
  simp [Ideal.ofBits, Ideal.ieee, -EReal.coe_mul]; norm_num

/-- The bf16 word of 51. -/
theorem fiftyOne : Ideal.ofBits FTy.bf16 0x424C#16 = (((51 : Nat) : ℝ) : EReal) := by
  simp [Ideal.ofBits, Ideal.ieee, -EReal.coe_mul]; norm_num

/-- Two numbers are equal as extended reals exactly when they are equal. -/
theorem natCast_eq_iff (a b : Nat) : (((a : ℝ) : EReal) = ((b : ℝ) : EReal)) ↔ a = b := by
  rw [EReal.coe_eq_coe_iff, Nat.cast_inj]

/-- The hot matrix at row `k` of token `c`, chunk by chunk. -/
theorem hotMat_apply (v51 v53 v70 v73 v76 : FVec Ideal S1x2048 .bf16) (v77 v78 v79 v80 : FVec Ideal S16x2048 .bf16)
    (v82 v84 : IVec S16x2048 1) (k : Fin 64) (c : Fin 2048) :
    hotMat v51 v53 v70 v73 v76 v77 v78 v79 v80 v82 v84 (ix2 k c) =
      if h : k.val < 16 then
        (FloatOps.sitofp (F := Ideal) FTy.f32 (BitVec.setWidth 32
          (IntOp.ori (IntOp.ori (v82 (ix2 ⟨k.val, h⟩ c)) (v84 (ix2 ⟨k.val, h⟩ c)))
            (BitVec.ofBool (decide (v77 (ix2 ⟨k.val, h⟩ c) = v70 (ix2 0 c)))))) : EReal)
      else if h : k.val - 16 < 16 then
        (FloatOps.sitofp (F := Ideal) FTy.f32 (BitVec.setWidth 32
          (BitVec.ofBool (decide (v78 (ix2 ⟨k.val - 16, h⟩ c) = v70 (ix2 0 c))))) : EReal)
      else if h : k.val - 16 - 16 < 16 then
        (FloatOps.sitofp (F := Ideal) FTy.f32 (BitVec.setWidth 32
          (IntOp.ori (BitVec.ofBool (decide (v79 (ix2 ⟨k.val - 16 - 16, h⟩ c) = v73 (ix2 0 c))))
            (BitVec.ofBool (decide (v79 (ix2 ⟨k.val - 16 - 16, h⟩ c) = v76 (ix2 0 c)))))) : EReal)
      else
        if v80 (ix2 ⟨k.val - 16 - 16 - 16, by omega⟩ c) = v76 (ix2 0 c) then 1
        else if v80 (ix2 ⟨k.val - 16 - 16 - 16, by omega⟩ c) = Ideal.ofBits FTy.bf16 0x4248#16 then v51 (ix2 0 c)
        else if v80 (ix2 ⟨k.val - 16 - 16 - 16, by omega⟩ c) = Ideal.ofBits FTy.bf16 0x424C#16 then v53 (ix2 0 c)
        else 0 := by
  pointwise [hotMat]

/-- A token's hot column, when its four indices are in range: one at the weekday, at the bias, at the hour, at the
    duration bin and at the time difference, the sine and the cosine of the angle in their rows, zero elsewhere. -/
theorem rowHot_apply (w0 w1 : Vec Ideal S1x2048 .i32) (w2 : Vec Ideal S1x2048 .f32) (w3 : Vec Ideal S1x2048 .i32)
    (x5 : Vec Ideal S16x1 .f32) (k : Fin 64) (c : Fin 2048) (a h d t : Nat) (ha : a < 7) (hh : h < 24) (hd : d < 10)
    (ht : t < 8) (ea : w0 (ix2 0 c) = BitVec.ofNat 32 a) (eh : hourW (w1 (ix2 0 c)) = BitVec.ofNat 32 h)
    (ed : binW (fun x => x5 (ix2 x 0)) (w2 (ix2 0 c)) = BitVec.ofNat 32 d)
    (et : w3 (ix2 0 c) = BitVec.ofNat 32 t) :
    rowHot w0 w1 w2 w3 x5 (ix2 k c) =
      if (k : Nat) = a ∨ (k : Nat) = 7 ∨ (k : Nat) = h + 8 ∨ (k : Nat) = d + 32 ∨ (k : Nat) = t + 42 then (1 : EReal)
      else if (k : Nat) = 50 then Ideal.sin (angle (w1 (ix2 0 c)))
      else if (k : Nat) = 51 then Ideal.cos (angle (w1 (ix2 0 c))) else 0 := by
  have e1 : (k1_pay16 (F := Ideal) (k1_pay10 w1) (k1_pay11 w1) (k1_pay12 w1) 0#32) (ix2 0 c) =
      (FloatOps.sitofp (F := Ideal) FTy.bf16 (BitVec.ofNat 32 (h + 8)) : EReal) := by
    pointwise [k1_pay16, k1_pay10, k1_pay11, k1_pay12, k1_pay7]
    unfold hourW at eh
    rw [eh]
    rw [addi_ofNat]
  have e2 : (k1_pay17 (k1_pay4 x5) (k1_pay8 w2)) (ix2 0 c) =
      (FloatOps.sitofp (F := Ideal) FTy.bf16 (BitVec.ofNat 32 (d + 32)) : EReal) := by
    pointwise [k1_pay17, k1_pay4, k1_pay8]
    refine (congrArg (fun z => (FloatOps.sitofp (F := Ideal) FTy.bf16 (IntOp.addi z 32#32) : EReal)) ed).trans ?_
    show (FloatOps.sitofp (F := Ideal) FTy.bf16 (IntOp.addi (BitVec.ofNat 32 d) (BitVec.ofNat 32 32)) : EReal) = _
    rw [addi_ofNat]
  have e3 : (k1_pay18 (F:=Ideal) (k1_pay9 w3)) (ix2 0 c) =
      (FloatOps.sitofp (F := Ideal) FTy.bf16 (BitVec.ofNat 32 (t + 42)) : EReal) := by
    pointwise [k1_pay18, k1_pay9, et]
    rw [addi_ofNat]
  have e4 : ∀ r : Fin 16, (k1_pay19 (F := Ideal) k1_pay5) (ix2 r c) = (((r.val : Nat) : ℝ) : EReal) := fun r => by
    pointwise [k1_pay19, k1_pay5]
    rw [sitofp_ofNat _ (by norm_num) _ (by omega)]
  have e5 : ∀ r : Fin 16, (k1_pay20 (F := Ideal) k1_pay5) (ix2 r c) = (((16 + r.val : Nat) : ℝ) : EReal) := fun r => by
    pointwise [k1_pay20, k1_pay5]
    rw [sitofp_ofNat _ (by norm_num) _ (by omega)]
  have e6 : ∀ r : Fin 16, (k1_pay21 (F := Ideal) k1_pay5) (ix2 r c) = (((32 + r.val : Nat) : ℝ) : EReal) := fun r => by
    pointwise [k1_pay21, k1_pay5]
    rw [sitofp_ofNat _ (by norm_num) _ (by omega)]
  have e7 : ∀ r : Fin 16, (k1_pay22 (F := Ideal) k1_pay5) (ix2 r c) = (((48 + r.val : Nat) : ℝ) : EReal) := fun r => by
    pointwise [k1_pay22, k1_pay5]
    rw [sitofp_ofNat _ (by norm_num) _ (by omega)]
  have e8 : ∀ r : Fin 16, (k1_pay23 (F := Ideal) k1_pay5 (k1_pay6 w0)) (ix2 r c) = BitVec.ofBool (decide (r.val = a)) := fun r => by
    pointwise [k1_pay23, k1_pay6, e4, ea]
    rw [sitofp_ofNat _ (by norm_num) _ (by omega)]
    simp only [natCast_eq_iff]
  have e9 : ∀ r : Fin 16, (k1_pay24 (F := Ideal) k1_pay5) (ix2 r c) = BitVec.ofBool (decide (r.val = 7)) := fun r => by
    pointwise [k1_pay24, e4]
    rw [seven]
    simp only [natCast_eq_iff]
  have e10 : (k1_pay14 (F:=Ideal) (k1_pay7 w1)) (ix2 0 c) = Ideal.sin (angle (w1 (ix2 0 c))) := by
    pointwise [k1_pay14, k1_pay13, k1_pay7, angle]
  have e11 : (k1_pay15 (F:=Ideal) (k1_pay7 w1)) (ix2 0 c) = Ideal.cos (angle (w1 (ix2 0 c))) := by
    pointwise [k1_pay15, k1_pay13, k1_pay7, angle]
  rw [sitofp_ofNat _ (by norm_num) _ (by omega)] at e1 e2 e3
  have hk := k.isLt
  unfold rowHot
  rw [hotMat_apply]
  simp only [e1, e2, e3, e4, e5, e6, e7, e8, e9, e10, e11, ori_ofBool, sitofp_ofBool, natCast_eq_iff, fifty, fiftyOne,
    Bool.or_eq_true, decide_eq_true_eq]
  split_ifs <;> first | rfl | omega

/-- One row of the kernel at a token and a column: the tail of the hot column. -/
theorem rowPay_eq (w0 w1 : Vec Ideal S1x2048 .i32) (w2 : Vec Ideal S1x2048 .f32) (w3 : Vec Ideal S1x2048 .i32)
    (x4 : Vec Ideal S64x64 .f32) (x5 : Vec Ideal S16x1 .f32) (x6 : Vec Ideal S64x64 .f32) (x7 : Vec Ideal S64x1 .f32) :
    rowPay w0 w1 w2 w3 x4 x5 x6 x7 =
      rowTail (F := Ideal) (k1_pay1 x4) (k1_pay2 x6) (k1_pay3 x7) (rowHot w0 w1 w2 w3 x5) := by
  unfold rowPay rowHot
  rw [pay25_eq]

end Cert.KernelIdeal.Row

end

end
-- ==== Proof.Fuse.lean ====
module

public import proofs.«01_k».proof.Proof.Carry
public import proofs.«01_k».proof.Proof.RowValue

@[expose] public section

/-! The folding grid's two results, entry by entry: the folded table's rows with their means removed, and the shifts
    divided by the scales. -/

set_option maxRecDepth 16384

noncomputable section

namespace Cert.KernelIdeal.Row

open Cert.KernelIdeal Cert.KernelIdeal.Gen
open Idealize.ShloMosaic Idealize.ShloMosaic.TcCoe Idealize.SL Idealize.SL.Sem

/-- An entry of the folding payload. -/
theorem k0_pay1_apply (wp : Vec Ideal S48x64 .f32) (e : Vec Ideal S64x48 .f32) (b : Vec Ideal S64x1 .f32) (j k : Fin 64) :
    k0_pay1 (F := Ideal) wp e b (ix2 j k) =
      ((∑ p : Fin 48, wp (ix2 p j) * e (ix2 k p)) + (FloatOps.sitofp (F := Ideal) .f32 (BitVec.setWidth 32 (IntOp.cmpi .eq (BitVec.ofNat 32 k.val) 7#32)) : EReal) * b (ix2 j 0)) -
      Ideal.div (∑ i : Fin 64, ((∑ p : Fin 48, wp (ix2 p i) * e (ix2 k p)) + (FloatOps.sitofp (F := Ideal) .f32 (BitVec.setWidth 32 (IntOp.cmpi .eq (BitVec.ofNat 32 k.val) 7#32)) : EReal) * b (ix2 i 0)))
        (Ideal.ofBits .f32 0x42800000#32) := by
  pointwise [k0_pay1]

/-- The second result of the folding call: shift over scale. -/
theorem k0_pay2_apply (x g : Vec Ideal S64x1 .f32) (j : Fin 64) :
    k0_pay2 (F := Ideal) x g (ix2 j 0) = Ideal.div (x (ix2 j 0)) (g (ix2 j 0)) := by
  pointwise [k0_pay2]

variable (V : (c : Dev nD) → (b : Ref sig .tc) → Buf (Elt Ideal) ((c : Thread nD τ).loc b))

/-- Every block of the one-point grid is the whole array. -/
theorem idx0 : ∀ t : Fin grid0.N, win0_0.index t = ![0, 0] ∧ win0_1.index t = ![0, 0] ∧
    win0_2.index t = ![0, 0] ∧ win0_3.index t = ![0, 0] ∧ win0_4.index t = ![0, 0] ∧
    win0_5.index t = ![0, 0] ∧ win0_6.index t = ![0, 0] := by
  decide +kernel

/-- The folding call reads all the encodings. -/
theorem iblk0_0 (c : Dev nD) (t : Fin cfg0.N) : iblk0 V c 0 t = V c main_v28 := by
  funext i
  blk_ext [iblk0, idx0 t]

/-- The folding call reads all the padded weights. -/
theorem iblk0_1 (c : Dev nD) (t : Fin cfg0.N) : iblk0 V c 1 t = V c main_v31 := by
  funext i
  blk_ext [iblk0, idx0 t]

/-- The folding call reads the whole bias. -/
theorem iblk0_2 (c : Dev nD) (t : Fin cfg0.N) : iblk0 V c 2 t = V c main_v32 := by
  funext i
  blk_ext [iblk0, idx0 t]

/-- The folding call reads all the shifts. -/
theorem iblk0_3 (c : Dev nD) (t : Fin cfg0.N) : iblk0 V c 3 t = V c main_v33 := by
  funext i
  blk_ext [iblk0, idx0 t]

/-- The folding call reads all the scales. -/
theorem iblk0_4 (c : Dev nD) (t : Fin cfg0.N) : iblk0 V c 4 t = V c main_v34 := by
  funext i
  blk_ext [iblk0, idx0 t]

/-- The folding grid's first result is its payload of the whole inputs. -/
theorem arr5 (c : Dev nD) : (dat0 V c).arrAt 5 cfg0.N = k0_pay1 (V c main_v31) (V c main_v28) (V c main_v32) := by
  refine (dat0 V c).arrAt_eq_of_covers 5 _ (by decide +kernel) fun t hf y => ?_
  blk_simp
  rw [after0_5, iblk0_0, iblk0_1, iblk0_2, out0_5, View.canon_unit_zero (by decide), View.ld_unit_zero (by decide), View.ld_unit_zero (by decide), View.ld_unit_zero (by decide)]
  have hi := idx0 t
  refine congrArg (k0_pay1 (V c main_v31) (V c main_v28) (V c main_v32)) (funext fun a => ?_)
  match a with
  | ⟨0, _⟩ => exact Fin.ext (by blk_simp [hi])
  | ⟨1, _⟩ => exact Fin.ext (by blk_simp [hi])

/-- What the folding call leaves in its second result. -/
theorem arr6 (c : Dev nD) : (dat0 V c).arrAt 6 cfg0.N = k0_pay2 (V c main_v33) (V c main_v34) := by
  refine (dat0 V c).arrAt_eq_of_covers 6 _ (by decide +kernel) fun t hf y => ?_
  blk_simp
  rw [after0_6, iblk0_3, iblk0_4, out0_6, View.canon_unit_zero (by decide), View.ld_unit_zero (by decide), View.ld_unit_zero (by decide)]
  have hi := idx0 t
  refine congrArg (k0_pay2 (V c main_v33) (V c main_v34)) (funext fun a => ?_)
  match a with
  | ⟨0, _⟩ => exact Fin.ext (by blk_simp [hi])
  | ⟨1, _⟩ => exact Fin.ext (by blk_simp [hi])

variable (m : (ℓ : Loc nD τ sig) → Buf (Elt Ideal) ℓ) (ρ : Dev nD → PrngReg) (c : Dev nD)

/-- The word of 64. -/
theorem sixty_four : (Ideal.ofBits .f32 0x42800000#32 : EReal) = ((64 : ℝ) : EReal) := by
  simp [Ideal.ofBits, Ideal.ieee, -EReal.coe_mul]; norm_num

/-- The one-hot of row 7 as a number. -/
theorem is_seven (k : Fin 64) : (FloatOps.sitofp (F := Ideal) .f32 (BitVec.setWidth 32 (IntOp.cmpi .eq (BitVec.ofNat 32 k.val) 7#32)) : EReal) =
    if k.val = 7 then 1 else 0 := by
  have h : ∀ k : Fin 64, (BitVec.setWidth 32 (IntOp.cmpi .eq (BitVec.ofNat 32 k.val) 7#32)).toInt = if k.val = 7 then 1 else 0 := by
    decide +kernel
  show (((BitVec.setWidth 32 (IntOp.cmpi .eq (BitVec.ofNat 32 k.val) 7#32)).toInt : ℝ) : EReal) = _
  rw [h]
  split <;> simp

/-- The folding payload of laid-out tables, padded weights and a bias column. -/
theorem k0_pay1_fold (wp : Vec Ideal S48x64 .f32) (e : Vec Ideal S64x48 .f32) (b : Vec Ideal S64x1 .f32)
    (t4 t5 t6 t7 W bb) (hw : ∀ p j, wp (ix2 p j) = Cert.Features.encW W p j)
    (he : ∀ k p, e (ix2 k p) = Cert.Features.encE t4 t5 t6 t7 k p) (hb : ∀ j, b (ix2 j 0) = bb j) (j k : Fin 64) :
    k0_pay1 (F := Ideal) wp e b (ix2 j k) = Cert.Norm.centred 64 (Cert.Features.encT t4 t5 t6 t7 W bb k) j := by
  rw [k0_pay1_apply, is_seven, sixty_four]
  simp only [hw, he, hb]
  rfl

/-- The folded table of the launched tables, weights and bias. -/
abbrev foldT (k j : Fin 64) : EReal :=
  Cert.Features.encT (mat (n := 7) (k := 12) (m (c.tc.loc main_arg4))) (mat (n := 24) (k := 12) (m (c.tc.loc main_arg5)))
    (mat (n := 8) (k := 8) (m (c.tc.loc main_arg6))) (mat (n := 10) (k := 8) (m (c.tc.loc main_arg7)))
    (mat (n := 42) (k := 64) (m (c.tc.loc main_arg9))) (vec (n := 64) (m (c.tc.loc main_arg10))) k j

/-- The folding grid leaves the folded table's rows, transposed, with each row's mean removed. -/
theorem V4_v35_0 (j k : Fin 64) : (V4 m ρ c main_v35_0 : Vec Ideal S64x64 .f32) (ix2 j k) =
    Cert.Norm.centred 64 (foldT m c k) j := by
  have e : V4 m ρ c main_v35_0 = k0_pay1 (V1 m ρ c main_v31) (V1 m ρ c main_v28) (V1 m ρ c main_v32) :=
    (W4_of m ρ c main_v35_0 (by decide)).trans ((W3_of m ρ c main_v35_0 (by decide)).trans
      ((W2_arr m ρ c 5).trans (arr5 (V1 m ρ) c)))
  rw [e]
  exact k0_pay1_fold _ _ _ _ _ _ _ _ _ (W1_v31_apply m ρ c) (W1_v28_apply m ρ c) (W1_v32_apply m ρ c) j k

/-- The folding grid leaves the shifts divided by the scales. -/
theorem V4_v35_1 (j : Fin 64) : (V4 m ρ c main_v35_1 : Vec Ideal S64x1 .f32) (ix2 j 0) =
    Ideal.div (vec (n := 64) (m (c.tc.loc main_arg12)) j) (vec (n := 64) (m (c.tc.loc main_arg11)) j) := by
  have e : V4 m ρ c main_v35_1 = k0_pay2 (V1 m ρ c main_v33) (V1 m ρ c main_v34) :=
    (W4_of m ρ c main_v35_1 (by decide)).trans ((W3_of m ρ c main_v35_1 (by decide)).trans
      ((W2_arr m ρ c 6).trans (arr6 (V1 m ρ) c)))
  rw [e, k0_pay2_apply]
  exact congrArg₂ Ideal.div (W1_v33_apply m ρ c j) (W1_v34_apply m ρ c j)

end Cert.KernelIdeal.Row

end

end
-- ==== Proof.Words.lean ====
module

public import proofs.«01_k».proof.Proof.RefValue
public import proofs.«01_k».proof.Proof.Fuse

@[expose] public section

/-! The hour, the duration bin and the angle of a token: the reference's and the kernel's agree, and each is in range. -/

set_option maxRecDepth 16384

noncomputable section

namespace Cert.Words

open Idealize.ShloMosaic
open Cert.KernelIdeal.Row (hourW binW angle)

/-- A word clamped between 0 and a small number is the word of a number no larger. -/
theorem clamp_range (n : Nat) (hn : n < 2 ^ 31) (x : BitVec 32) :
    ∃ h : Fin (n + 1), IntOp.minsi (BitVec.ofNat 32 n) (IntOp.maxsi (0#32) x) = BitVec.ofNat 32 h.val := by
  unfold IntOp.minsi IntOp.maxsi
  have hz : (BitVec.ofNat 32 n).toInt = n := by
    rw [BitVec.toInt_eq_toNat_cond, BitVec.toNat_ofNat]; split_ifs <;> omega
  by_cases h1 : x.slt 0#32 = true
  · rw [if_pos h1]
    refine ⟨0, ?_⟩
    rw [if_neg]
    · rfl
    · rw [BitVec.slt, decide_eq_true_eq, hz]; simp
  · rw [if_neg h1]
    by_cases h2 : (BitVec.ofNat 32 n).slt x = true
    · rw [if_pos h2]; exact ⟨Fin.last n, rfl⟩
    · rw [if_neg h2]
      rw [BitVec.slt, decide_eq_true_eq] at h1 h2
      rw [hz] at h2
      have h3 : (0#32).toInt = 0 := rfl
      rw [h3] at h1
      have h4 := BitVec.toInt_eq_toNat_cond x
      have h5 := x.isLt
      refine ⟨⟨x.toNat, ?_⟩, ?_⟩
      · split_ifs at h4 <;> omega
      · simp

/-- The sign of a word as a comparison chain and as the difference of two comparison bits. -/
theorem sign_eq (s : BitVec 32) :
    IntOp.subi (BitVec.setWidth 32 (IntOp.cmpi CmpIPredicate.sgt s 0#32)) (BitVec.setWidth 32 (IntOp.cmpi CmpIPredicate.slt s 0#32)) =
      (if s = 0 then 0 else if s.msb then -1 else 1) := by
  unfold IntOp.cmpi IntOp.subi
  simp only [BitVec.slt, BitVec.msb_eq_toInt]
  have h3 : (0#32).toInt = 0 := rfl
  simp only [h3]
  by_cases h0 : s = 0
  · subst h0; decide
  · have hne : s.toInt ≠ 0 := fun h => h0 (BitVec.eq_of_toInt_eq (h.trans h3.symm))
    rw [if_neg h0]
    rcases lt_or_gt_of_ne hne with h | h
    · have h' : ¬ 0 < s.toInt := by omega
      simp only [h, h', decide_true, decide_false, if_true]; decide
    · have h' : ¬ s.toInt < 0 := by omega
      have h'' : 0 < s.toInt := h
      simp only [h', h'', decide_true, decide_false]; decide

/-- Dividing by sixty is the same on every unit. -/
theorem divsi_sixty (u v : ArithUnit) (s : BitVec 32) : IntOp.divsi u s 60#32 = IntOp.divsi v s 60#32 := by
  have h : ¬ IntOp.SDivCorner s 60#32 := by
    rintro (h | ⟨-, h⟩)
    · exact absurd h (by decide)
    · exact absurd h (by decide)
  unfold IntOp.divsi; rw [if_neg h, if_neg h]

/-- The remainder by sixty is the same on every unit. -/
theorem remsi_sixty (u v : ArithUnit) (s : BitVec 32) : IntOp.remsi u s 60#32 = IntOp.remsi v s 60#32 := by
  have h : ¬ IntOp.SDivCorner s 60#32 := by
    rintro (h | ⟨-, h⟩)
    · exact absurd h (by decide)
    · exact absurd h (by decide)
  unfold IntOp.remsi; rw [if_neg h, if_neg h]

/-- The hour as the reference's integer operations give it. -/
def hourR (s : BitVec 32) : BitVec 32 :=
  IntOp.minsi (23#32) (IntOp.maxsi (0#32)
    (Scalar.select
      (IntOp.andi
        (IntOp.cmpi CmpIPredicate.ne (if s = 0 then 0 else if s.msb then -1 else 1 : BitVec 32)
          (if (60#32 : BitVec 32) = 0 then 0 else if (60#32 : BitVec 32).msb then -1 else 1 : BitVec 32))
        (IntOp.cmpi CmpIPredicate.ne (IntOp.remsi ArithUnit.host s 60#32) 0#32))
      (IntOp.subi (IntOp.divsi ArithUnit.host s 60#32) 1#32)
      (IntOp.divsi ArithUnit.host s 60#32)))

/-- The reference's hour is the kernel's. -/
theorem hourR_eq (s : BitVec 32) : hourR s = hourW s := by
  unfold hourR hourW
  rw [sign_eq, divsi_sixty .host .vector, remsi_sixty .host .vector]
  rfl

/-- The hour is between 0 and 23. -/
theorem hour_range (s : BitVec 32) : ∃ h : Fin 24, hourW s = BitVec.ofNat 32 h.val :=
  clamp_range 23 (by norm_num) _

/-- The bin is between 0 and 9. -/
theorem bin_range (e : Fin 16 → EReal) (d : EReal) : ∃ h : Fin 10, binW e d = BitVec.ofNat 32 h.val :=
  clamp_range 9 (by norm_num) _

/-- Counting sixteen edges of which the last six are infinite counts the first ten. -/
theorem count_eq (e : Fin 16 → EReal) (b : Fin 10 → EReal) (x : EReal)
    (he : ∀ i : Fin 16, e i = if h : i.val < 10 then b ⟨i.val, h⟩ else ⊤) :
    Finset.fold IntOp.addi (0#32) (fun i : Fin 16 => BitVec.setWidth 32 (BitVec.ofBool (decide (e i < x)))) Finset.univ =
      Finset.fold IntOp.addi (0#32) (fun i : Fin 10 => BitVec.setWidth 32 (BitVec.ofBool (decide (b i < x)))) Finset.univ := by
  have l : ∀ (n : Nat) (f : Fin n → BitVec 32), Finset.fold IntOp.addi (0#32) f Finset.univ = ∑ i, f i := fun n f => rfl
  rw [l, l]
  rw [show (∑ i : Fin 16, BitVec.setWidth 32 (BitVec.ofBool (decide (e i < x)))) =
    ∑ i : Fin (10 + 6), BitVec.setWidth 32 (BitVec.ofBool (decide (e i < x))) from rfl, Fin.sum_univ_add]
  have h2 : ∀ i : Fin 6, BitVec.setWidth 32 (BitVec.ofBool (decide (e (Fin.natAdd 10 i) < x))) = 0 := fun i => by
    rw [he, dif_neg (by simp)]
    simp
  have h1 : ∀ i : Fin 10, e (Fin.castAdd 6 i) = b i := fun i => by
    rw [he, dif_pos (by simp)]; rfl
  rw [Finset.sum_congr rfl (fun i _ => h2 i)]
  simp only [h1, Finset.sum_const_zero, add_zero]

/-- The angle is a real number. -/
theorem angle_real (s : BitVec 32) : angle s = (((s.toInt : ℝ) * ((2 * Real.pi) * 1440⁻¹) : ℝ) : EReal) := by
  have hk : (Named.named (F := Ideal) (φ := FTy.f32) Cert.KernelIdeal.κ "minute_angle" 0x3B8EFA35#32 : EReal) =
      (((2 * Real.pi) * 1440⁻¹ : ℝ) : EReal) :=
    IdealRules.named_const.ideal_named_scalar _ _ _ _ rfl
  unfold angle
  rw [hk, EReal.coe_mul]
  rfl

/-- The word of 1440. -/
theorem day_minutes : (Ideal.ofBits .f32 1152647168#32 : EReal) = ((1440 : ℝ) : EReal) := by
  simp [Ideal.ofBits, Ideal.ieee, -EReal.coe_mul]; norm_num
/-- The word of 2. -/
theorem two_f32 : (Ideal.ofBits .f32 1073741824#32 : EReal) = ((2 : ℝ) : EReal) := by
  simp [Ideal.ofBits, Ideal.ieee, -EReal.coe_mul]; norm_num
/-- The word of −1. -/
theorem neg_one_f32 : (Ideal.ofBits .f32 3212836864#32 : EReal) = ((-1 : ℝ) : EReal) := by
  simp [Ideal.ofBits, Ideal.ieee, -EReal.coe_mul]; norm_num

/-- The arc cosine of minus one is π. -/
theorem acos_neg_one : Ideal.acos (((-1 : ℝ)) : EReal) = ((Real.pi : ℝ) : EReal) := by
  show (if (-1 : ℝ) ≤ -1 ∧ (-1 : ℝ) ≤ 1 then ((Real.arccos (-1) : ℝ) : EReal) else ⊥) = _
  rw [if_pos (by norm_num), Real.arccos_neg_one]

/-- The reference's angle: a start minute over 1440, times two, times π. -/
theorem refAngle_eq (s : BitVec 32) :
    Ideal.div (FloatOps.sitofp (F := Ideal) FTy.f32 s : EReal) (Ideal.ofBits .f32 1152647168#32) * Ideal.ofBits .f32 1073741824#32 *
      Ideal.acos (Ideal.ofBits .f32 3212836864#32) = angle s := by
  rw [day_minutes, two_f32, neg_one_f32, acos_neg_one, Ideal.div_coe (by norm_num : (1440 : ℝ) ≠ 0), angle_real]
  show ((s.toInt : ℝ) : EReal) * _ * _ * _ = _
  rw [← EReal.coe_mul, ← EReal.coe_mul, ← EReal.coe_mul]
  congr 1; ring

end Cert.Words

namespace Cert.ReferenceIdeal.Value

open Cert.ReferenceIdeal Cert.ReferenceIdeal.Gen
open Idealize.ShloMosaic Idealize.ShloMosaic.TcCoe Idealize.SL Idealize.SL.Sem Idealize.ShloMosaic.StableHlo
variable (V0 : Valuation τ sig (Elt Ideal))

/-- The reference's hour of a token. -/
theorem v2_apply (i : Fin 4096) (l : Fin 200) : (res_main_v2 V0 : IVec S4096x200 32) (ix2 i l) =
    Cert.KernelIdeal.Row.hourW ((V0 (Proc.devRef .tc main_arg1) : IVec S4096x200 32) (ix2 i l)) := by
  pointwise [res_main_v2, res_main_call1_v0, res_main_call1_v2]
  have h : ∀ n : BitVec 32, id (constantI S_ 32 n) ix0 = n := fun n => rfl
  simp only [h]
  exact Cert.Words.hourR_eq _

/-- The reference's duration bin of a token. -/
theorem v26_apply (i : Fin 4096) (l : Fin 200) (e : Fin 16 → EReal)
    (he : ∀ i : Fin 16, e i = if h : i.val < 10 then vec (n := 10) (V0 (Proc.devRef .tc main_arg8)) ⟨i.val, h⟩ else ⊤) :
    (res_main_v26 V0 : IVec S4096x200 32) (ix2 i l) =
    Cert.KernelIdeal.Row.binW e ((V0 (Proc.devRef .tc main_arg2) : FVec Ideal S4096x200 .f32) (ix2 i l)) := by
  pointwise [res_main_v26]
  have h : ∀ n : BitVec 32, id (constantI S_ 32 n) ix0 = n := fun n => rfl
  simp only [h]
  unfold Cert.KernelIdeal.Row.binW
  rw [Cert.Words.count_eq e (vec (n := 10) (V0 (Proc.devRef .tc main_arg8))) _ he]
  rfl

/-- The reference's angle of a token. -/
theorem v11_apply (i : Fin 4096) (l : Fin 200) : (res_main_v11 V0 : FVec Ideal S4096x200 .f32) (ix2 i l) =
    Cert.KernelIdeal.Row.angle ((V0 (Proc.devRef .tc main_arg1) : IVec S4096x200 32) (ix2 i l)) := by
  pointwise [res_main_v11]
  exact Cert.Words.refAngle_eq _

end Cert.ReferenceIdeal.Value

end

end
-- ==== Proof.Blocks.lean ====
module

public import proofs.«01_k».proof.Proof.RowPay
public import Idealize.ShloMosaic.Lib.Pipeline.ValueKit

@[expose] public section

/-! The main kernel's output array, token by token: row `n` of the output is the row payload of the tokens that lie
    on the same row of the reshaped inputs. -/

set_option maxRecDepth 16384

noncomputable section

namespace Cert.KernelIdeal.Row

open Cert.KernelIdeal Cert.KernelIdeal.Gen
open Idealize.ShloMosaic Idealize.ShloMosaic.TcCoe
open Idealize.SL Idealize.SL.Sem

variable {F : FTy → Type} [FloatOps F] [Named F]

/-- A block's output at a token and a column: the row payload of the token's row. -/
theorem out1_8_apply (x0 x1 : Vec F S8x2048 .i32) (x2 : Vec F S8x2048 .f32) (x3 : Vec F S8x2048 .i32)
    (x4 : Vec F S64x64 .f32) (x5 : Vec F S16x1 .f32) (x6 : Vec F S64x64 .f32) (x7 : Vec F S64x1 .f32)
    (k : Fin 8) (c : Fin 2048) (o : Fin 64) (y : S16384x64.Idx) (hy0 : (y 0 : Nat) = 2048 * k.val + c.val)
    (hy1 : (y 1 : Nat) = o.val) :
    out1_8 x0 x1 x2 x3 x4 x5 x6 x7 y =
      rowPay (View.ld x0 (inRect k)) (View.ld x1 (inRect k)) (View.ld x2 (inRect k)) (View.ld x3 (inRect k))
        x4 x5 x6 x7 (ix2 c o) := by
  rw [out1_8_rows, View.ld_unit_zero (by decide), View.ld_unit_zero (by decide), View.ld_unit_zero (by decide),
    View.ld_unit_zero (by decide)]
  have hk := k.isLt
  have hc := c.isLt
  have ho := o.isLt
  refine View.canon_ofFn_unit_eq_of_forall (S := S16384x64) (fun k : Fin 8 => ![2048 * k.rev.val, 0]) S2048x64.size (fun k => outInb k.rev) _ y _ ?_ ?_
  · refine ⟨k.rev, fun a => ?_⟩
    rw [Fin.rev_rev]
    match a with
    | ⟨0, _⟩ => show 2048 * k.val ≤ (y 0 : Nat) ∧ (y 0 : Nat) < 2048 * k.val + 2048; omega
    | ⟨1, _⟩ => show 0 ≤ (y 1 : Nat) ∧ (y 1 : Nat) < 0 + 64; omega
  · intro k' x hx
    have h0 : (y 0 : Nat) = 2048 * k'.rev.val + x 0 := hx 0
    have h1 : (y 1 : Nat) = 0 + x 1 := hx 1
    have hx0 : (x 0 : Nat) < 2048 := (x 0).isLt
    have e : k'.rev = k := Fin.ext (by omega)
    have ex : x = ix2 c o := by
      funext a
      match a with
      | ⟨0, _⟩ => exact Fin.ext (by show (x 0 : Nat) = c.val; rw [e] at h0; omega)
      | ⟨1, _⟩ => exact Fin.ext (by show (x 1 : Nat) = o.val; omega)
    rw [e, ex]

variable (V : (c : Dev nD) → (b : Ref sig .tc) → Buf (Elt F) ((c : Thread nD τ).loc b))

/-- Row `r` of a reshaped input array. -/
abbrev rowAt {e : EltTy} (X : Vec F S400x2048 e) (r : Fin 400) : Vec F S1x2048 e := fun i => X (ix2 r (i 1))

/-- The output array a region leaves, from the arrays it finds. -/
def outArr (c : Dev nD) : Vec F S819200x64 .f32 := fun y =>
  rowPay (rowAt (V c main_v0) ⟨(y 0).val / 2048, by have : (y 0).val < 819200 := (y 0).isLt; omega⟩)
    (rowAt (V c main_v1) ⟨(y 0).val / 2048, by have : (y 0).val < 819200 := (y 0).isLt; omega⟩)
    (rowAt (V c main_v2) ⟨(y 0).val / 2048, by have : (y 0).val < 819200 := (y 0).isLt; omega⟩)
    (rowAt (V c main_v3) ⟨(y 0).val / 2048, by have : (y 0).val < 819200 := (y 0).isLt; omega⟩)
    (V c main_v35_0) (V c main_v41) (V c main_v36) (V c main_v35_1)
    (ix2 ⟨(y 0).val % 2048, Nat.mod_lt _ (by norm_num)⟩ (y 1))

/-- The blocks' indices at a point of the grid. -/
theorem idx1 : ∀ t : Fin grid1.N, win1_0.index t = ![t.val, 0] ∧ win1_1.index t = ![t.val, 0] ∧
    win1_2.index t = ![t.val, 0] ∧ win1_3.index t = ![t.val, 0] ∧ win1_4.index t = ![0, 0] ∧
    win1_5.index t = ![0, 0] ∧ win1_6.index t = ![0, 0] ∧ win1_7.index t = ![0, 0] ∧ win1_8.index t = ![t.val, 0] := by
  decide +kernel

/-- Reading the `k`-th row of a block. -/
theorem ld_inRect {e : EltTy} (X : Vec F S8x2048 e) (k : Fin 8) :
    View.ld X (inRect k) = fun i => X (ix2 k (i 1)) := by
  funext i
  refine View.ld_unit_apply_of X _ _ _ i _ fun a => ?_
  match a with
  | ⟨0, _⟩ =>
    have h : (i 0 : Nat) < 1 := (i 0).isLt
    show k.val = k.val + (i 0 : Nat)
    omega
  | ⟨1, _⟩ => show (i 1 : Nat) = 0 + (i 1 : Nat); omega

/-- A row of a block of weekdays is a row of the whole array. -/
theorem ld_row0 (c : Dev nD) (t : Fin cfg1.N) (k : Fin 8) (h : 8 * t.val + k.val < 400) :
    View.ld (iblk1 V c 0 t) (inRect k) = rowAt (V c main_v0) ⟨8 * t.val + k.val, h⟩ := by
  rw [ld_inRect]
  funext i
  show iblk1 V c 0 t (ix2 k (i 1)) = V c main_v0 (ix2 _ (i 1))
  blk_ext [iblk1, idx1 t]

/-- A row of a block of start minutes is a row of the whole array. -/
theorem ld_row1 (c : Dev nD) (t : Fin cfg1.N) (k : Fin 8) (h : 8 * t.val + k.val < 400) :
    View.ld (iblk1 V c 1 t) (inRect k) = rowAt (V c main_v1) ⟨8 * t.val + k.val, h⟩ := by
  rw [ld_inRect]
  funext i
  show iblk1 V c 1 t (ix2 k (i 1)) = V c main_v1 (ix2 _ (i 1))
  blk_ext [iblk1, idx1 t]

/-- A row of a block of durations is a row of the whole array. -/
theorem ld_row2 (c : Dev nD) (t : Fin cfg1.N) (k : Fin 8) (h : 8 * t.val + k.val < 400) :
    View.ld (iblk1 V c 2 t) (inRect k) = rowAt (V c main_v2) ⟨8 * t.val + k.val, h⟩ := by
  rw [ld_inRect]
  funext i
  show iblk1 V c 2 t (ix2 k (i 1)) = V c main_v2 (ix2 _ (i 1))
  blk_ext [iblk1, idx1 t]

/-- A row of a block of time differences is a row of the whole array. -/
theorem ld_row3 (c : Dev nD) (t : Fin cfg1.N) (k : Fin 8) (h : 8 * t.val + k.val < 400) :
    View.ld (iblk1 V c 3 t) (inRect k) = rowAt (V c main_v3) ⟨8 * t.val + k.val, h⟩ := by
  rw [ld_inRect]
  funext i
  show iblk1 V c 3 t (ix2 k (i 1)) = V c main_v3 (ix2 _ (i 1))
  blk_ext [iblk1, idx1 t]

/-- Every grid step reads the whole folded matrix. -/
theorem iblk1_4 (c : Dev nD) (t : Fin cfg1.N) : iblk1 V c 4 t = V c main_v35_0 := by
  funext i
  blk_ext [iblk1, idx1 t]

/-- Every grid step reads all the bin edges. -/
theorem iblk1_5 (c : Dev nD) (t : Fin cfg1.N) : iblk1 V c 5 t = V c main_v41 := by
  funext i
  blk_ext [iblk1, idx1 t]

/-- Every grid step reads the whole diagonal matrix. -/
theorem iblk1_6 (c : Dev nD) (t : Fin cfg1.N) : iblk1 V c 6 t = V c main_v36 := by
  funext i
  blk_ext [iblk1, idx1 t]

/-- Every grid step reads the whole column of shifts over scales. -/
theorem iblk1_7 (c : Dev nD) (t : Fin cfg1.N) : iblk1 V c 7 t = V c main_v35_1 := by
  funext i
  blk_ext [iblk1, idx1 t]

/-- The output array at token `2048 r + cc` and column `o`. -/
theorem outArr_apply (c : Dev nD) (z : S819200x64.Idx) (r : Fin 400) (cc : Fin 2048) (o : Fin 64)
    (h0 : (z 0 : Nat) = 2048 * r.val + cc.val) (h1 : (z 1 : Nat) = o.val) :
    outArr V c z = rowPay (rowAt (V c main_v0) r) (rowAt (V c main_v1) r) (rowAt (V c main_v2) r)
      (rowAt (V c main_v3) r) (V c main_v35_0) (V c main_v41) (V c main_v36) (V c main_v35_1) (ix2 cc o) := by
  have hc := cc.isLt
  have e0 : (⟨(z 0).val / 2048, by have : (z 0).val < 819200 := (z 0).isLt; omega⟩ : Fin 400) = r :=
    Fin.ext (by show (z 0 : Nat) / 2048 = r.val; omega)
  have e1 : (⟨(z 0).val % 2048, Nat.mod_lt _ (by norm_num)⟩ : Fin 2048) = cc :=
    Fin.ext (by show (z 0 : Nat) % 2048 = cc.val; omega)
  have e2 : (z 1 : Fin 64) = o := Fin.ext h1
  unfold outArr
  rw [e0, e1, e2]

/-- Equal operands give equal rows. -/
theorem rowPay_congr {w0 w0' w1 w1' : Vec F S1x2048 .i32} {w2 w2' : Vec F S1x2048 .f32} {w3 w3' : Vec F S1x2048 .i32}
    {x4 x4' : Vec F S64x64 .f32} {x5 x5' : Vec F S16x1 .f32} {x6 x6' : Vec F S64x64 .f32} {x7 x7' : Vec F S64x1 .f32}
    (h0 : w0 = w0') (h1 : w1 = w1') (h2 : w2 = w2') (h3 : w3 = w3') (h4 : x4 = x4') (h5 : x5 = x5') (h6 : x6 = x6')
    (h7 : x7 = x7') (j : S2048x64.Idx) :
    rowPay w0 w1 w2 w3 x4 x5 x6 x7 j = rowPay w0' w1' w2' w3' x4' x5' x6' x7' j := by
  rw [h0, h1, h2, h3, h4, h5, h6, h7]

/-- What the main kernel leaves in its output array. -/
theorem arr8 (c : Dev nD) : (dat1 V c).arrAt 8 cfg1.N = outArr V c := by
  refine (dat1 V c).arrAt_eq_of_covers 8 _ (by decide +kernel) fun t hf y => ?_
  have ht : t.val < 50 := lt_of_lt_of_eq t.isLt N_1
  have hy0 : (y 0 : Nat) < 16384 := (y 0).isLt
  have hy1 : (y 1 : Nat) < 64 := (y 1).isLt
  have hi := idx1 t
  blk_simp
  rw [after1_8]
  have hk : (y 0 : Nat) / 2048 < 8 := by omega
  rw [out1_8_apply _ _ _ _ _ _ _ _ ⟨(y 0 : Nat) / 2048, hk⟩ ⟨(y 0 : Nat) % 2048, Nat.mod_lt _ (by norm_num)⟩
    ⟨(y 1 : Nat), hy1⟩ y (by show (y 0 : Nat) = 2048 * ((y 0 : Nat) / 2048) + (y 0 : Nat) % 2048; omega) rfl]
  rw [outArr_apply V c _ ⟨8 * t.val + (y 0 : Nat) / 2048, by omega⟩ ⟨(y 0 : Nat) % 2048, Nat.mod_lt _ (by norm_num)⟩
    ⟨(y 1 : Nat), hy1⟩ (by
      blk_simp [hi]
      show _ = 2048 * (8 * t.val + (y 0 : Nat) / 2048) + (y 0 : Nat) % 2048
      omega) (by blk_simp [hi])]
  have hlt : 8 * t.val + (y 0 : Nat) / 2048 < 400 := by omega
  have e0 := ld_row0 V c t ⟨(y 0 : Nat) / 2048, hk⟩ hlt
  have e1 := ld_row1 V c t ⟨(y 0 : Nat) / 2048, hk⟩ hlt
  have e2 := ld_row2 V c t ⟨(y 0 : Nat) / 2048, hk⟩ hlt
  have e3 := ld_row3 V c t ⟨(y 0 : Nat) / 2048, hk⟩ hlt
  exact rowPay_congr e0 e1 e2 e3 (iblk1_4 V c t) (iblk1_5 V c t) (iblk1_6 V c t) (iblk1_7 V c t) _

end Cert.KernelIdeal.Row

end

end
-- ==== Proof.KernelEntry.lean ====
module

public import proofs.«01_k».proof.Proof.Words
public import proofs.«01_k».proof.Proof.Blocks
public import proofs.«01_k».proof.Proof.KernelRun

@[expose] public section

/-! The kernel's result at an entry: the normalisation of the one-hot combination of the centred folded rows. -/

set_option maxRecDepth 16384

noncomputable section

namespace Cert.KernelIdeal.Row

open Cert.KernelIdeal Cert.KernelIdeal.Gen
open Idealize.ShloMosaic Idealize.ShloMosaic.TcCoe Idealize.SL Idealize.SL.Sem Idealize.ShloMosaic.StableHlo

/-- The word of 1/64. -/
theorem inv_sixty_four : (Ideal.ofBits .f32 0x3C800000#32 : EReal) = (((64 : ℝ)⁻¹ : ℝ) : EReal) := by
  simp [Ideal.ofBits, Ideal.ieee, -EReal.coe_mul]; norm_num

/-- A row of the kernel at a token and a column, from what its operands hold entry by entry. -/
theorem row_entry (w0 w1 : Vec Ideal S1x2048 .i32) (w2 : Vec Ideal S1x2048 .f32) (w3 : Vec Ideal S1x2048 .i32)
    (x4 : Vec Ideal S64x64 .f32) (x5 : Vec Ideal S16x1 .f32) (x6 : Vec Ideal S64x64 .f32) (x7 : Vec Ideal S64x1 .f32)
    (c : Fin 2048) (o : Fin 64) (M : Fin 64 → Fin 64 → EReal) (γ β : Fin 64 → EReal)
    (h4 : ∀ j k, x4 (ix2 j k) = M k j) (h6 : ∀ j, x6 (ix2 j o) = if j = o then γ j else 0)
    (h7 : ∀ j, x7 (ix2 j 0) = Ideal.div (β j) (γ j)) (a : Fin 7) (h : Fin 24) (d : Fin 10) (t : Fin 8) (s co : ℝ)
    (ea : w0 (ix2 0 c) = BitVec.ofNat 32 a.val) (eh : hourW (w1 (ix2 0 c)) = BitVec.ofNat 32 h.val)
    (ed : binW (fun x => x5 (ix2 x 0)) (w2 (ix2 0 c)) = BitVec.ofNat 32 d.val)
    (et : w3 (ix2 0 c) = BitVec.ofNat 32 t.val)
    (es : Ideal.sin (angle (w1 (ix2 0 c))) = (s : EReal)) (ec : Ideal.cos (angle (w1 (ix2 0 c))) = (co : EReal)) :
    rowPay w0 w1 w2 w3 x4 x5 x6 x7 (ix2 c o) =
      Cert.Norm.kerOut ((64 : ℝ)⁻¹ : ℝ) (Ideal.ofBits .f32 0x3727C5AC#32)
        (fun j => ∑ i : Fin 7, (Cert.Features.coef s co i : EReal) * M (Cert.Features.pos a h d t i) j) γ β o := by
  have hdot : ∀ j, (∑ k : Fin 64, (k1_pay1 x4 : FVec Ideal S64x64 .bf16) (ix2 j k) * rowHot w0 w1 w2 w3 x5 (ix2 k c)) =
      ∑ i : Fin 7, (Cert.Features.coef s co i : EReal) * M (Cert.Features.pos a h d t i) j := fun j => by
    rw [← Cert.Features.hot_dot (fun k => M k j) a h d t s co]
    refine Finset.sum_congr rfl fun k _ => ?_
    have e1 : (k1_pay1 x4 : FVec Ideal S64x64 .bf16) (ix2 j k) = M k j := by
      rw [← h4 j k]
      pointwise [k1_pay1]
    rw [e1, rowHot_apply w0 w1 w2 w3 x5 k c a.val h.val d.val t.val a.isLt h.isLt d.isLt t.isLt ea eh ed et, es, ec]
    rfl
  have e6 : ∀ j, (k1_pay2 x6 : FVec Ideal S64x64 .f32) (ix2 j o) = if j = o then γ j else 0 := fun j => by
    rw [← h6 j]
    pointwise [k1_pay2]
  have e7 : ∀ j, (k1_pay3 x7 : FVec Ideal S64x1 .f32) (ix2 j 0) = Ideal.div (β j) (γ j) := fun j => by
    rw [← h7 j]
    pointwise [k1_pay3]
  rw [rowPay_eq, rowTail_apply]
  simp only [hdot, e6, e7, inv_sixty_four]
  rfl

variable (m : (ℓ : Loc nD τ sig) → Buf (Elt Ideal) ℓ) (ρ : Dev nD → PrngReg) (c : Dev nD)

/-- The kernel's result is its main grid's output array, reshaped. -/
theorem W6_v43 : (W6 m ρ c (Proc.devRef .tc main_v43) : Vec Ideal S4096x200x64 .f32) =
    shapeCast S4096x200x64 (outArr (V4 m ρ) c : Vec Ideal S819200x64 .f32) shapeCasts_S819200x64_S4096x200x64 := by
  have e : (W5 m ρ c (Proc.devRef .tc main_v42) : Vec Ideal S819200x64 .f32) = outArr (V4 m ρ) c :=
    (W5_arr m ρ c 8).trans (arr8 (V4 m ρ) c)
  rw [← e]
  unfold W6
  after_results
  rfl

/-- A token’s place in its row of 2048 gives back its two coordinates. -/
theorem tok_split (i : Fin 4096) (l : Fin 200) (r : Fin 400) (x : Fin 2048) (h : 2048 * r.val + x.val = 200 * i.val + l.val) :
    tok r x = ix2 i l := by
  have := l.isLt
  unfold tok
  congr 1 <;> (apply Fin.ext; show _ = _; simp only [h]; omega)

/-- The output reshaped to 4096 × 200 × 64, at an index. -/
theorem cast_out {α : Type} (x : S819200x64.Idx → α) (hc) (i : Fin 4096) (l : Fin 200) (o : Fin 64) :
    ∃ z : S819200x64.Idx, (z 0 : Nat) = 200 * i.val + l.val ∧ (z 1 : Nat) = o.val ∧
      shapeCast S4096x200x64 x hc (ix3 i l o) = x z := by
  refine ⟨ix2 ⟨200 * i.val + l.val, by omega⟩ o, rfl, rfl, ?_⟩
  pointwise []
  simp only [Nat.mul_comm i.val 200]

/-- The kernel's result at a token and a column, when the token's weekday and time difference are in range. -/
theorem W6_apply (i : Fin 4096) (l : Fin 200) (o : Fin 64) (a : Fin 7) (h : Fin 24) (d : Fin 10) (t : Fin 8) (s co : ℝ)
    (e : Fin 16 → EReal)
    (he : ∀ x : Fin 16, e x = if h : x.val < 10 then vec (n := 10) (m (c.tc.loc main_arg8)) ⟨x.val, h⟩ else ⊤)
    (ea : (m (c.tc.loc main_arg0) : Vec Ideal S4096x200 .i32) (ix2 i l) = BitVec.ofNat 32 a.val)
    (eh : hourW ((m (c.tc.loc main_arg1) : Vec Ideal S4096x200 .i32) (ix2 i l)) = BitVec.ofNat 32 h.val)
    (ed : binW e ((m (c.tc.loc main_arg2) : Vec Ideal S4096x200 .f32) (ix2 i l)) = BitVec.ofNat 32 d.val)
    (et : (m (c.tc.loc main_arg3) : Vec Ideal S4096x200 .i32) (ix2 i l) = BitVec.ofNat 32 t.val)
    (es : Ideal.sin (angle ((m (c.tc.loc main_arg1) : Vec Ideal S4096x200 .i32) (ix2 i l))) = (s : EReal))
    (ec : Ideal.cos (angle ((m (c.tc.loc main_arg1) : Vec Ideal S4096x200 .i32) (ix2 i l))) = (co : EReal)) :
    (W6 m ρ c (Proc.devRef .tc main_v43) : Vec Ideal S4096x200x64 .f32) (ix3 i l o) =
      Cert.Norm.kerOut ((64 : ℝ)⁻¹ : ℝ) (Ideal.ofBits .f32 0x3727C5AC#32)
        (fun j => ∑ x : Fin 7, (Cert.Features.coef s co x : EReal) *
          Cert.Norm.centred 64 (foldT m c (Cert.Features.pos a h d t x)) j)
        (vec (n := 64) (m (c.tc.loc main_arg11))) (vec (n := 64) (m (c.tc.loc main_arg12))) o := by
  obtain ⟨z, z0, z1, hz⟩ := cast_out (outArr (V4 m ρ) c : Vec Ideal S819200x64 .f32) shapeCasts_S819200x64_S4096x200x64 i l o
  have hi := i.isLt
  have hl := l.isLt
  have hr : (200 * i.val + l.val) / 2048 < 400 := by omega
  have hx : (200 * i.val + l.val) % 2048 < 2048 := Nat.mod_lt _ (by norm_num)
  have hs : 2048 * ((200 * i.val + l.val) / 2048) + (200 * i.val + l.val) % 2048 = 200 * i.val + l.val := Nat.div_add_mod _ _
  have ht := tok_split i l ⟨_, hr⟩ ⟨_, hx⟩ hs
  rw [W6_v43, hz, outArr_apply (V4 m ρ) c z ⟨_, hr⟩ ⟨_, hx⟩ o (z0.trans hs.symm) z1]
  have e1 : rowAt (V4 m ρ c main_v1) ⟨_, hr⟩ (ix2 0 ⟨_, hx⟩) = (m (c.tc.loc main_arg1) : Vec Ideal S4096x200 .i32) (ix2 i l) :=
    (V4_v1 m ρ c ⟨_, hr⟩ ⟨_, hx⟩).trans (congrArg _ ht)
  refine row_entry _ _ _ _ _ _ _ _ ⟨_, hx⟩ o (fun k j => Cert.Norm.centred 64 (foldT m c k) j) _ _
    (V4_v35_0 m ρ c) (fun j => V4_v36 m ρ c j o) (V4_v35_1 m ρ c) a h d t s co ?_ ?_ ?_ ?_ ?_ ?_
  · exact ((V4_v0 m ρ c ⟨_, hr⟩ ⟨_, hx⟩).trans (congrArg _ ht)).trans ea
  · rw [e1]; exact eh
  · have e5 : (fun x : Fin 16 => (V4 m ρ c main_v41 : Vec Ideal S16x1 .f32) (ix2 x 0)) = e :=
      funext fun x => (V4_v41 m ρ c x).trans (he x).symm
    have e2 : rowAt (V4 m ρ c main_v2) ⟨_, hr⟩ (ix2 0 ⟨_, hx⟩) = (m (c.tc.loc main_arg2) : Vec Ideal S4096x200 .f32) (ix2 i l) :=
      (V4_v2 m ρ c ⟨_, hr⟩ ⟨_, hx⟩).trans (congrArg _ ht)
    exact (congrArg₂ binW e5 e2).trans ed
  · exact ((V4_v3 m ρ c ⟨_, hr⟩ ⟨_, hx⟩).trans (congrArg _ ht)).trans et
  · rw [e1]; exact es
  · rw [e1]; exact ec

end Cert.KernelIdeal.Row

end

end
-- ==== Proof.InRange.lean ====
module

public import proofs.«01_k».proof.Proof.Gen.Pre_in_range
public import proofs.«01_k».proof.Proof.Read
public import Idealize.ShloMosaic.Lib.ReduceAll
public import Idealize.ShloMosaic.Lib.Pointwise

@[expose] public section

/-! What the precondition says: the weekday and the time difference of every token are in range, and every scale is a
    nonzero real number. -/

set_option maxRecDepth 16384

noncomputable section

namespace Cert.Pre_in_range

open Idealize.ShloMosaic

/-- A word that is at least zero and below a small number is the word of a number below it. -/
theorem word_range (n : Nat) (hn : n < 2 ^ 31) (x : BitVec 32) (h0 : IntOp.cmpi .sge x 0#32 = 1#1)
    (h1 : IntOp.cmpi .slt x (BitVec.ofNat 32 n) = 1#1) : ∃ a : Fin n, x = BitVec.ofNat 32 a.val := by
  have e0 := IntOp.cmpi_sge.1 h0
  have e1 := IntOp.cmpi_slt.1 h1
  have hz : (BitVec.ofNat 32 n).toInt = n := by
    rw [BitVec.toInt_eq_toNat_cond, BitVec.toNat_ofNat]; split_ifs <;> omega
  have hz0 : (0#32).toInt = 0 := rfl
  rw [hz] at e1
  rw [hz0] at e0
  have h4 := BitVec.toInt_eq_toNat_cond x
  have h5 := x.isLt
  refine ⟨⟨x.toNat, ?_⟩, ?_⟩
  · split_ifs at h4 <;> omega
  · simp

/-- A shape of no axis has one index. -/
instance : Subsingleton S_.Idx := ⟨fun a b => funext fun i => i.elim0⟩

/-- The infinite constant. -/
theorem top_f32 : (Ideal.ofBits .f32 0x7F800000#32 : EReal) = ⊤ := by
  simp [Ideal.ofBits, Ideal.ieee]

/-- An extended real that is not zero and whose absolute value is not infinite is a nonzero real number. -/
theorem real_of (x : EReal) (h0 : (FloatOps.cmpf (F := Ideal) (φ := FTy.f32) .une x (Ideal.ofBits .f32 0x00000000#32)) = 1#1)
    (h1 : (FloatOps.cmpf (F := Ideal) (φ := FTy.f32) .olt (FloatOps.absf (F := Ideal) (φ := FTy.f32) x) (Ideal.ofBits .f32 0x7F800000#32)) = 1#1) :
    ∃ g : ℝ, g ≠ 0 ∧ x = g := by
  have z : (Ideal.ofBits .f32 0x00000000#32 : EReal) = 0 := by simp [Ideal.ofBits, Ideal.ieee]
  have h0 : Ideal.cmp .une x (Ideal.ofBits .f32 0x00000000#32) = 1#1 := h0
  have h1 : Ideal.cmp .olt (max x (-x)) (Ideal.ofBits .f32 0x7F800000#32) = 1#1 := h1
  rw [z] at h0
  rw [top_f32] at h1
  have b : ∀ p : Bool, BitVec.ofBool p = 1#1 ↔ p = true := by decide
  simp only [Ideal.cmp, b, decide_eq_true_eq] at h0 h1
  induction x with
  | bot => simp at h1
  | top => simp at h1
  | coe r => exact ⟨r, fun e => h0 (by rw [e]; rfl), rfl⟩

/-- The precondition, read back: every weekday is below 7, every time difference below 8, and every scale is a nonzero
    real number. -/
theorem unpack (x0 x1 : IVec S4096x200 32) (x2 : FVec Ideal S4096x200 .f32) (x3 : IVec S4096x200 32) (x4 : FVec Ideal S7x12 .f32)
    (x5 : FVec Ideal S24x12 .f32) (x6 : FVec Ideal S8x8 .f32) (x7 : FVec Ideal S10x8 .f32) (x8 : FVec Ideal S10 .f32)
    (x9 : FVec Ideal S42x64 .f32) (x10 x11 x12 : FVec Ideal S64 .f32)
    (h : fn (F := Ideal) x0 x1 x2 x3 x4 x5 x6 x7 x8 x9 x10 x11 x12 = fun _ => 1#1) :
    (∀ i, ∃ a : Fin 7, x0 i = BitVec.ofNat 32 a.val) ∧ (∀ i, ∃ t : Fin 8, x3 i = BitVec.ofNat 32 t.val) ∧
      ∀ j, ∃ g : ℝ, g ≠ 0 ∧ vec (n := 64) x11 j = g := by
  have h := congrFun h ix0
  unfold fn fn_part1 at h
  obtain ⟨h, h4⟩ := IntOp.andi_eq_one.1 h
  obtain ⟨h, h3⟩ := IntOp.andi_eq_one.1 h
  obtain ⟨h1, h2⟩ := IntOp.andi_eq_one.1 h
  refine ⟨fun i => ?_, fun i => ?_, fun j => ?_⟩
  · obtain ⟨l, r⟩ := IntOp.andi_eq_one.1 (Host.reduce_andi_all _ _ _ _ _ h1 i)
    exact word_range 7 (by norm_num) _ l r
  · obtain ⟨l, r⟩ := IntOp.andi_eq_one.1 (Host.reduce_andi_all _ _ _ _ _ h2 i)
    exact word_range 8 (by norm_num) _ l r
  · exact real_of _ (Host.reduce_andi_all _ _ _ _ _ h3 (ix1 j)) (Host.reduce_andi_all _ _ _ _ _ h4 (ix1 j))

end Cert.Pre_in_range

end

end
-- ==== Proof.Equal.lean ====
module

public import proofs.«01_k».proof.Proof.KernelEntry
public import proofs.«01_k».proof.Proof.InRange

@[expose] public section

/-! The reference's result and the kernel's, entry by entry. -/

set_option maxRecDepth 16384

noncomputable section

namespace Cert.Equal

open Idealize.ShloMosaic Idealize.ShloMosaic.TcCoe Idealize.SL Idealize.SL.Sem Idealize.ShloMosaic.StableHlo

/-- The small constant under the square root is a positive real number. -/
theorem eps_real : ∃ e : ℝ, 0 < e ∧ (Ideal.ofBits .f32 0x3727C5AC#32 : EReal) = (e : EReal) := by
  refine ⟨10995116 / 1099511627776, by norm_num, ?_⟩
  simp [Ideal.ofBits, Ideal.ieee, -EReal.coe_mul]; norm_num

/-- The reference's result at a token and a column, in the words of the kernel's. -/
theorem reference_apply (V0 : Valuation Cert.ReferenceIdeal.τ Cert.ReferenceIdeal.sig (Elt Ideal)) (i : Fin 4096) (l : Fin 200) (o : Fin 64)
    (x0 x1 : IVec Cert.KernelIdeal.S4096x200 32) (x2 : FVec Ideal Cert.KernelIdeal.S4096x200 .f32) (x3 : IVec Cert.KernelIdeal.S4096x200 32)
    (t4 : Fin 7 → Fin 12 → EReal) (t5 : Fin 24 → Fin 12 → EReal) (t6 : Fin 8 → Fin 8 → EReal) (t7 : Fin 10 → Fin 8 → EReal)
    (t8 : Fin 10 → EReal) (W : Fin 42 → Fin 64 → EReal) (b γ β : Fin 64 → EReal)
    (q0 : V0 (Proc.devRef .tc Cert.ReferenceIdeal.main_arg0) = x0) (q1 : V0 (Proc.devRef .tc Cert.ReferenceIdeal.main_arg1) = x1)
    (q2 : V0 (Proc.devRef .tc Cert.ReferenceIdeal.main_arg2) = x2) (q3 : V0 (Proc.devRef .tc Cert.ReferenceIdeal.main_arg3) = x3)
    (q4 : mat (n := 7) (k := 12) (V0 (Proc.devRef .tc Cert.ReferenceIdeal.main_arg4)) = t4)
    (q5 : mat (n := 24) (k := 12) (V0 (Proc.devRef .tc Cert.ReferenceIdeal.main_arg5)) = t5)
    (q6 : mat (n := 8) (k := 8) (V0 (Proc.devRef .tc Cert.ReferenceIdeal.main_arg6)) = t6)
    (q7 : mat (n := 10) (k := 8) (V0 (Proc.devRef .tc Cert.ReferenceIdeal.main_arg7)) = t7)
    (q8 : vec (n := 10) (V0 (Proc.devRef .tc Cert.ReferenceIdeal.main_arg8)) = t8)
    (q9 : mat (n := 42) (k := 64) (V0 (Proc.devRef .tc Cert.ReferenceIdeal.main_arg9)) = W)
    (q10 : vec (n := 64) (V0 (Proc.devRef .tc Cert.ReferenceIdeal.main_arg10)) = b)
    (q11 : vec (n := 64) (V0 (Proc.devRef .tc Cert.ReferenceIdeal.main_arg11)) = γ)
    (q12 : vec (n := 64) (V0 (Proc.devRef .tc Cert.ReferenceIdeal.main_arg12)) = β)
    (a : Fin 7) (h : Fin 24) (d : Fin 10) (t : Fin 8) (s co : ℝ) (e : Fin 16 → EReal)
    (he : ∀ x : Fin 16, e x = if h : x.val < 10 then t8 ⟨x.val, h⟩ else ⊤)
    (ea : x0 (ix2 i l) = BitVec.ofNat 32 a.val)
    (eh : Cert.KernelIdeal.Row.hourW (x1 (ix2 i l)) = BitVec.ofNat 32 h.val)
    (ed : Cert.KernelIdeal.Row.binW e (x2 (ix2 i l)) = BitVec.ofNat 32 d.val)
    (et : x3 (ix2 i l) = BitVec.ofNat 32 t.val)
    (es : Ideal.sin (Cert.KernelIdeal.Row.angle (x1 (ix2 i l))) = (s : EReal))
    (ec : Ideal.cos (Cert.KernelIdeal.Row.angle (x1 (ix2 i l))) = (co : EReal)) :
    Cert.ReferenceIdeal.Value.result V0 (ix3 i l o) =
      Cert.Norm.refOut 64 (Ideal.ofBits .f32 0x3727C5AC#32)
        (fun j => ∑ x : Fin 7, (Cert.Features.coef s co x : EReal) *
          Cert.Features.encT t4 t5 t6 t7 W b (Cert.Features.pos a h d t x) j) γ β o := by
  have hv : ∀ j, (Cert.ReferenceIdeal.Value.res_main_v33 V0 : FVec Ideal Cert.ReferenceIdeal.S4096x200x64 .f32) (ix3 i l j) =
      ∑ x : Fin 7, (Cert.Features.coef s co x : EReal) *
          Cert.Features.encT t4 t5 t6 t7 W b (Cert.Features.pos a h d t x) j := fun j => by
    rw [Cert.ReferenceIdeal.Value.res_v33_apply V0 i l j a h d t (by rw [q0]; exact ea)
      ((Cert.ReferenceIdeal.Value.v2_apply V0 i l).trans (by rw [q1]; exact eh))
      ((Cert.ReferenceIdeal.Value.v26_apply V0 i l e (by rw [q8]; exact he)).trans (by rw [q2]; exact ed)) (by rw [q3]; exact et),
      Cert.ReferenceIdeal.Value.v11_apply, q1, es, ec, q4, q5, q6, q7, q9, q10]
    exact Cert.Features.feat_dot a h d t s co j
  rw [Cert.ReferenceIdeal.Value.result_apply, q11, q12]
  exact congrArg (fun f => Cert.Norm.refOut 64 (Ideal.ofBits .f32 0x3727C5AC#32) f γ β o) (funext hv)

variable (m : (ℓ : Loc Cert.KernelIdeal.nD Cert.KernelIdeal.τ Cert.KernelIdeal.sig) → Buf (Elt Ideal) ℓ)
  (g : Dev Cert.KernelIdeal.nD → PrngReg)

/-- On a device whose arguments are in range, a reference launched on the same arguments leaves the kernel's result. -/
theorem results_eq (V0 : Valuation Cert.ReferenceIdeal.τ Cert.ReferenceIdeal.sig (Elt Ideal)) (c : Dev Cert.KernelIdeal.nD)
    (q0 : V0 (Proc.devRef .tc Cert.ReferenceIdeal.main_arg0) = m (c.tc.loc Cert.KernelIdeal.main_arg0))
    (q1 : V0 (Proc.devRef .tc Cert.ReferenceIdeal.main_arg1) = m (c.tc.loc Cert.KernelIdeal.main_arg1))
    (q2 : V0 (Proc.devRef .tc Cert.ReferenceIdeal.main_arg2) = m (c.tc.loc Cert.KernelIdeal.main_arg2))
    (q3 : V0 (Proc.devRef .tc Cert.ReferenceIdeal.main_arg3) = m (c.tc.loc Cert.KernelIdeal.main_arg3))
    (q4 : V0 (Proc.devRef .tc Cert.ReferenceIdeal.main_arg4) = m (c.tc.loc Cert.KernelIdeal.main_arg4))
    (q5 : V0 (Proc.devRef .tc Cert.ReferenceIdeal.main_arg5) = m (c.tc.loc Cert.KernelIdeal.main_arg5))
    (q6 : V0 (Proc.devRef .tc Cert.ReferenceIdeal.main_arg6) = m (c.tc.loc Cert.KernelIdeal.main_arg6))
    (q7 : V0 (Proc.devRef .tc Cert.ReferenceIdeal.main_arg7) = m (c.tc.loc Cert.KernelIdeal.main_arg7))
    (q8 : V0 (Proc.devRef .tc Cert.ReferenceIdeal.main_arg8) = m (c.tc.loc Cert.KernelIdeal.main_arg8))
    (q9 : V0 (Proc.devRef .tc Cert.ReferenceIdeal.main_arg9) = m (c.tc.loc Cert.KernelIdeal.main_arg9))
    (q10 : V0 (Proc.devRef .tc Cert.ReferenceIdeal.main_arg10) = m (c.tc.loc Cert.KernelIdeal.main_arg10))
    (q11 : V0 (Proc.devRef .tc Cert.ReferenceIdeal.main_arg11) = m (c.tc.loc Cert.KernelIdeal.main_arg11))
    (q12 : V0 (Proc.devRef .tc Cert.ReferenceIdeal.main_arg12) = m (c.tc.loc Cert.KernelIdeal.main_arg12))
    (p0 : ∀ i, ∃ a : Fin 7, (m (c.tc.loc Cert.KernelIdeal.main_arg0) : IVec Cert.KernelIdeal.S4096x200 32) i = BitVec.ofNat 32 a.val)
    (p3 : ∀ i, ∃ t : Fin 8, (m (c.tc.loc Cert.KernelIdeal.main_arg3) : IVec Cert.KernelIdeal.S4096x200 32) i = BitVec.ofNat 32 t.val)
    (p11 : ∀ j, ∃ r : ℝ, r ≠ 0 ∧ vec (n := 64) (m (c.tc.loc Cert.KernelIdeal.main_arg11)) j = r) :
    Cert.ReferenceIdeal.Value.result V0 =
      (Cert.KernelIdeal.Gen.W6 m g c (Proc.devRef .tc Cert.KernelIdeal.main_v43) : Vec Ideal Cert.KernelIdeal.S4096x200x64 .f32) := by
  funext z
  obtain ⟨i, l, o, rfl⟩ : ∃ (i : Fin 4096) (l : Fin 200) (o : Fin 64), z = ix3 i l o := ⟨z 0, z 1, z 2, eq_ix3 z⟩
  obtain ⟨a, ea⟩ := p0 (ix2 i l)
  obtain ⟨t, et⟩ := p3 (ix2 i l)
  obtain ⟨h, eh⟩ := Cert.Words.hour_range ((m (c.tc.loc Cert.KernelIdeal.main_arg1) : IVec Cert.KernelIdeal.S4096x200 32) (ix2 i l))
  obtain ⟨e, he⟩ : ∃ e : Fin 16 → EReal, ∀ x : Fin 16, e x =
      if h : x.val < 10 then vec (n := 10) (m (c.tc.loc Cert.KernelIdeal.main_arg8)) ⟨x.val, h⟩ else ⊤ := ⟨_, fun _ => rfl⟩
  obtain ⟨d, ed⟩ := Cert.Words.bin_range e ((m (c.tc.loc Cert.KernelIdeal.main_arg2) : FVec Ideal Cert.KernelIdeal.S4096x200 .f32) (ix2 i l))
  have ha := Cert.Words.angle_real ((m (c.tc.loc Cert.KernelIdeal.main_arg1) : IVec Cert.KernelIdeal.S4096x200 32) (ix2 i l))
  have es := (congrArg Ideal.sin ha).trans (Ideal.sin_coe _)
  have ec := (congrArg Ideal.cos ha).trans (Ideal.cos_coe _)
  rw [reference_apply V0 i l o _ _ _ _ _ _ _ _ _ _ _ _ _ q0 q1 q2 q3 (congrArg (mat (n := 7) (k := 12)) q4)
    (congrArg (mat (n := 24) (k := 12)) q5) (congrArg (mat (n := 8) (k := 8)) q6) (congrArg (mat (n := 10) (k := 8)) q7)
    (congrArg (vec (n := 10)) q8) (congrArg (mat (n := 42) (k := 64)) q9) (congrArg (vec (n := 64)) q10)
    (congrArg (vec (n := 64)) q11) (congrArg (vec (n := 64)) q12) a h d t _ _ e he ea eh ed et es ec,
    Cert.KernelIdeal.Row.W6_apply m g c i l o a h d t _ _ e he ea eh ed et es ec]
  obtain ⟨ε, hε, ee⟩ := eps_real
  rw [ee]
  exact (Cert.Norm.out_eq (by norm_num) hε _ (fun x => Cert.KernelIdeal.Row.foldT m c (Cert.Features.pos a h d t x)) _ _ _ _ p11
    (fun _ => rfl) (fun _ => rfl) o).symm

end Cert.Equal

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_in_range
public import proofs.«01_k».proof.Proof.Gen.ReferenceIdeal.Run
public import proofs.«01_k».proof.Proof.KernelRun
public import proofs.«01_k».proof.Proof.Equal
public import Idealize.ShloMosaic.Adequacy
public import Idealize.ShloMosaic.Init

@[expose] public section

noncomputable section

namespace Cert.Proof

open Idealize.ShloMosaic Idealize.SL.Sem Idealize.ShloMosaic.StableHlo Cert.Kernel

/-- The reference program runs, leaves its arguments as launched, and ends with every semaphore counter at zero (it has
    no semaphores). -/
theorem reference_frame : quiescent_ReferenceIdeal (hReferenceIdeal := Cert.ReferenceIdeal.Gen.facts) :=
  fun m g _ => (θ_run Cert.ReferenceIdeal.defs _ _).mono
    (fun r h => ⟨fun c => (h c).2, sem_eq_zero_of_no_sems rfl r.2⟩) (Cert.ReferenceIdeal.Value.run m g)

/-- The kernel's one named constant is a value its rule may give it. -/
theorem preserves : preserves_Kernel_KernelIdeal :=
  IdealRules.named_const.statement Cert.KernelIdeal.κ "minute_angle" .f32 0x3B8EFA35#32
    (((2 * Real.pi) * 1440⁻¹ : ℝ) : EReal) rfl

/-- In range and on equal arguments, the kernel and the reference both run and end with equal results and unchanged
    arguments: the common result is the one the kernel's last stretch leaves. -/
theorem equal_results : algebraic_KernelIdeal_ReferenceIdeal_pre_in_range (hKernelIdeal := Cert.KernelIdeal.Gen.facts)
    (hReferenceIdeal := Cert.ReferenceIdeal.Gen.facts) (hPre_in_range := Cert.Pre_in_range.Gen.facts) := by
  intro m g m' g' hp ha
  refine ⟨fun c => Cert.KernelIdeal.Gen.W6 m g c (Proc.devRef .tc Cert.KernelIdeal.main_v43), Cert.KernelIdeal.Run.run m g, ?_⟩
  refine (θ_run Cert.ReferenceIdeal.defs _ _).mono (fun r h c => ⟨(h c).1.trans ?_, (h c).2⟩) (Cert.ReferenceIdeal.Value.run m' g')
  obtain ⟨p0, p3, p11⟩ := Cert.Pre_in_range.unpack _ _ _ _ _ _ _ _ _ _ _ _ _ (hp c)
  obtain ⟨q0, q1, q2, q3, q4, q5, q6, q7, q8, q9, q10, q11, q12⟩ := ha c
  exact (Cert.ReferenceIdeal.Value.val2_main_v57 (launchContents m' c)).symm.trans
    (Cert.Equal.results_eq m g (launchContents m' c) c q0 q1 q2 q3 q4 q5 q6 q7 q8 q9 q10 q11 q12 p0 p3 p11)

/-- The certificate: the frames of the three programs, the named constant, and the equality of results. -/
theorem claim : Cert.Claim :=
  ⟨Cert.Kernel.Gen.facts, Cert.KernelIdeal.Gen.facts, Cert.ReferenceIdeal.Gen.facts, Cert.Pre_in_range.Gen.facts,
    fun m ρ _ => Cert.Kernel.Gen.frame m ρ,
    fun m ρ _ => Cert.KernelIdeal.Gen.frame m ρ,
    fun m ρ _ => Cert.KernelIdeal.Gen.frame m ρ,
    reference_frame,
    fun m ρ _ => reference_frame m ρ trivial,
    preserves,
    equal_results⟩

end Cert.Proof

end
